-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19_0) = v0 c
          ∧ r.2.mem ((c.tc : Thread Cert.ReferenceIdeal.nD Cert.ReferenceIdeal.τ).loc Cert.ReferenceIdeal.main_v19_1) = v1 c
          ∧ r.2.mem ((c.tc : Thread Cert.ReferenceIdeal.nD Cert.ReferenceIdeal.τ).loc Cert.ReferenceIdeal.main_v19_2) = v2 c
          ∧ r.2.mem ((c.tc : Thread Cert.ReferenceIdeal.nD Cert.ReferenceIdeal.τ).loc Cert.ReferenceIdeal.main_v19_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4608 : Shape := ⟨3, ![1, 4096, 4608]⟩
abbrev S576x4608 : Shape := ⟨2, ![576, 4608]⟩
abbrev S5x36 : Shape := ⟨2, ![5, 36]⟩
abbrev S512 : Shape := ⟨1, ![512]⟩
abbrev S1x4096 : Shape := ⟨2, ![1, 4096]⟩
abbrev S32 : Shape := ⟨1, ![32]⟩
abbrev S_ : Shape := ⟨0, ![]⟩
abbrev S32x2 : Shape := ⟨2, ![32, 2]⟩
abbrev S64 : Shape := ⟨1, ![64]⟩
abbrev S64x1 : Shape := ⟨2, ![64, 1]⟩
abbrev S4096x4608 : Shape := ⟨2, ![4096, 4608]⟩
abbrev S512x1 : Shape := ⟨2, ![512, 1]⟩
abbrev S4096x512 : Shape := ⟨2, ![4096, 512]⟩
abbrev S4096x64 : Shape := ⟨2, ![4096, 64]⟩
abbrev S4096x36 : Shape := ⟨2, ![4096, 36]⟩
abbrev S512x4608 : Shape := ⟨2, ![512, 4608]⟩
abbrev S1x512 : Shape := ⟨2, ![1, 512]⟩
abbrev S512x512 : Shape := ⟨2, ![512, 512]⟩
abbrev S512x64 : Shape := ⟨2, ![512, 64]⟩
abbrev S512x36 : Shape := ⟨2, ![512, 36]⟩
abbrev S1x1 : Shape := ⟨2, ![1, 1]⟩
abbrev S1x128 : Shape := ⟨2, ![1, 128]⟩
abbrev S128x128 : Shape := ⟨2, ![128, 128]⟩
abbrev S64x128 : Shape := ⟨2, ![64, 128]⟩
abbrev S512x128 : Shape := ⟨2, ![512, 128]⟩
abbrev S1x256 : Shape := ⟨2, ![1, 256]⟩
abbrev S512x256 : Shape := ⟨2, ![512, 256]⟩
abbrev S576x512 : Shape := ⟨2, ![576, 512]⟩
abbrev S64x512 : Shape := ⟨2, ![64, 512]⟩

abbrev nBuf : Space → Nat
  | .hbm => 28
  | .vmem => 17
  | .smem => 1
  | _ => 0

abbrev bufTy : (tb : Table) → Fin (tcTables nBuf tb) → BufTy
  | .hbm, ⟨0, _⟩ => ⟨S1x4096x4608, .bf16⟩
  | .hbm, ⟨1, _⟩ => ⟨S576x4608, .fp8e4m3⟩
  | .hbm, ⟨2, _⟩ => ⟨S5x36, .f32⟩
  | .hbm, ⟨3, _⟩ => ⟨S512, .bf16⟩
  | .hbm, ⟨4, _⟩ => ⟨S1x4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x2, .f32⟩
  | .hbm, ⟨20, _⟩ => ⟨S64, .f32⟩
  | .hbm, ⟨21, _⟩ => ⟨S64x1, .f32⟩
  | .hbm, ⟨22, _⟩ => ⟨S4096x4608, .bf16⟩
  | .hbm, ⟨23, _⟩ => ⟨S512x1, .bf16⟩
  | .hbm, ⟨24, _⟩ => ⟨S4096x512, .bf16⟩
  | .hbm, ⟨25, _⟩ => ⟨S4096x64, .bf16⟩
  | .hbm, ⟨26, _⟩ => ⟨S4096x4608, .fp8e4m3⟩
  | .hbm, ⟨27, _⟩ => ⟨S4096x36, .f32⟩
  | .local _ .vmem, ⟨0, _⟩ => ⟨S512x4608, .bf16⟩
  | .local _ .vmem, ⟨1, _⟩ => ⟨S512x4608, .bf16⟩
  | .local _ .vmem, ⟨2, _⟩ => ⟨S576x4608, .fp8e4m3⟩
  | .local _ .vmem, ⟨3, _⟩ => ⟨S512x1, .bf16⟩
  | .local _ .vmem, ⟨4, _⟩ => ⟨S1x512, .i32⟩
  | .local _ .vmem, ⟨5, _⟩ => ⟨S1x512, .i32⟩
  | .local _ .vmem, ⟨6, _⟩ => ⟨S64x1, .f32⟩
  | .local _ .vmem, ⟨7, _⟩ => ⟨S512x512, .bf16⟩
  | .local _ .vmem, ⟨8, _⟩ => ⟨S512x512, .bf16⟩
  | .local _ .vmem, ⟨9, _⟩ => ⟨S512x64, .bf16⟩
  | .local _ .vmem, ⟨10, _⟩ => ⟨S512x64, .bf16⟩
  | .local _ .vmem, ⟨11, _⟩ => ⟨S512x4608, .fp8e4m3⟩
  | .local _ .vmem, ⟨12, _⟩ => ⟨S512x4608, .fp8e4m3⟩
  | .local _ .vmem, ⟨13, _⟩ => ⟨S512x36, .f32⟩
  | .local _ .vmem, ⟨14, _⟩ => ⟨S512x36, .f32⟩
  | .local _ .vmem, ⟨15, _⟩ => ⟨S576x4608, .bf16⟩
  | .local _ .vmem, ⟨16, _⟩ => ⟨S512x4608, .bf16⟩
  | .local _ .smem, ⟨0, _⟩ => ⟨S5x36, .f32⟩
  | _, _ => ⟨S1x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x36 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4608 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x36 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x4096x4608 : Shape := ⟨3, ![1, 4096, 4608]⟩
abbrev S576x4608 : Shape := ⟨2, ![576, 4608]⟩
abbrev S5x36 : Shape := ⟨2, ![5, 36]⟩
abbrev S512 : Shape := ⟨1, ![512]⟩
abbrev S1x4096 : Shape := ⟨2, ![1, 4096]⟩
abbrev S32 : Shape := ⟨1, ![32]⟩
abbrev S_ : Shape := ⟨0, ![]⟩
abbrev S5x128x36 : Shape := ⟨3, ![5, 128, 36]⟩
abbrev S640x36 : Shape := ⟨2, ![640, 36]⟩
abbrev S640x36x128 : Shape := ⟨3, ![640, 36, 128]⟩
abbrev S640x4608 : Shape := ⟨2, ![640, 4608]⟩
abbrev S4096x4608 : Shape := ⟨2, ![4096, 4608]⟩
abbrev S1x512 : Shape := ⟨2, ![1, 512]⟩
abbrev S4096x1 : Shape := ⟨2, ![4096, 1]⟩
abbrev S1x32 : Shape := ⟨2, ![1, 32]⟩
abbrev S4096x512 : Shape := ⟨2, ![4096, 512]⟩
abbrev S4096x64 : Shape := ⟨2, ![4096, 64]⟩
abbrev S4096x36 : Shape := ⟨2, ![4096, 36]⟩
abbrev S4096x36x128 : Shape := ⟨3, ![4096, 36, 128]⟩
abbrev S4096x36x1 : Shape := ⟨3, ![4096, 36, 1]⟩
abbrev S4096x576 : Shape := ⟨2, ![4096, 576]⟩
abbrev S4096 : Shape := ⟨1, ![4096]⟩
abbrev S4096x32x2 : Shape := ⟨3, ![4096, 32, 2]⟩
abbrev S4096x32 : Shape := ⟨2, ![4096, 32]⟩
abbrev S4096x32x1 : Shape := ⟨3, ![4096, 32, 1]⟩

abbrev nBuf : Space → Nat
  | .hbm => 32
  | .vmem => 10
  | .smem => 0
  | _ => 0

abbrev bufTy : (tb : Table) → Fin (tcTables nBuf tb) → BufTy
  | .hbm, ⟨0, _⟩ => ⟨S1x4096x4608, .bf16⟩
  | .hbm, ⟨1, _⟩ => ⟨S576x4608, .fp8e4m3⟩
  | .hbm, ⟨2, _⟩ => ⟨S5x36, .f32⟩
  | .hbm, ⟨3, _⟩ => ⟨S512, .bf16⟩
  | .hbm, ⟨4, _⟩ => ⟨S1x4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S5x128x36, .f32⟩
  | .hbm, ⟨20, _⟩ => ⟨S640x36, .f32⟩
  | .hbm, ⟨21, _⟩ => ⟨S640x36x128, .f32⟩
  | .hbm, ⟨22, _⟩ => ⟨S640x4608, .f32⟩
  | .hbm, ⟨23, _⟩ => ⟨S576x4608, .f32⟩
  | .hbm, ⟨24, _⟩ => ⟨S4096x4608, .bf16⟩
  | .hbm, ⟨25, _⟩ => ⟨S1x512, .bf16⟩
  | .hbm, ⟨26, _⟩ => ⟨S4096x1, .i32⟩
  | .hbm, ⟨27, _⟩ => ⟨S1x32, .f32⟩
  | .hbm, ⟨28, _⟩ => ⟨S4096x512, .bf16⟩
  | .hbm, ⟨29, _⟩ => ⟨S4096x64, .bf16⟩
  | .hbm, ⟨30, _⟩ => ⟨S4096x4608, .fp8e4m3⟩
  | .hbm, ⟨31, _⟩ => ⟨S4096x36, .f32⟩
  | .local _ .vmem, ⟨0, _⟩ => ⟨S4096x4608, .bf16⟩
  | .local _ .vmem, ⟨1, _⟩ => ⟨S576x4608, .fp8e4m3⟩
  | .local _ .vmem, ⟨2, _⟩ => ⟨S576x4608, .f32⟩
  | .local _ .vmem, ⟨3, _⟩ => ⟨S1x512, .bf16⟩
  | .local _ .vmem, ⟨4, _⟩ => ⟨S4096x1, .i32⟩
  | .local _ .vmem, ⟨5, _⟩ => ⟨S1x32, .f32⟩
  | .local _ .vmem, ⟨6, _⟩ => ⟨S4096x512, .bf16⟩
  | .local _ .vmem, ⟨7, _⟩ => ⟨S4096x64, .bf16⟩
  | .local _ .vmem, ⟨8, _⟩ => ⟨S4096x4608, .fp8e4m3⟩
  | .local _ .vmem, ⟨9, _⟩ => ⟨S4096x36, .f32⟩
  | _, _ => ⟨S1x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "inv_fp8_max" => some ((1 / 448 : ℝ) : EReal)
  | _ => none

abbrev grid0 : Pipeline.Grid := .none

abbrev stage0_0 : Fin 1 → Memref sig .tc .vmem S4096x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x4608 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x36 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelTerms.lean ====
/-
  WHAT ONE GRID POINT OF THE KERNEL COMPUTES, as terms over its input blocks, at any float instance. The body is unrolled
  over the 36 groups of 128 columns (and, at the first point, over the 180 tiles of the weight): its stores are listed here
  once as a family over the group's number, each payload being group 0's printed payload at the group's own columns.
-/
module

public import proofs.«01_k».proof.Proof.Gen.KernelIdeal.Skeleton
public import Idealize.ShloMosaic.Lib.Pipeline.ValueKit

@[expose] public section

noncomputable section

namespace Cert.Proof.K

open Cert.KernelIdeal Cert.KernelIdeal.Gen Idealize.ShloMosaic Idealize.ShloMosaic.TcCoe Idealize.SL.Sem

variable {F : FTy → Type} [FloatOps F]

/-- The list `[f (n - 1), …, f 1, f 0]`: the stores of an unrolled loop, last first. -/
def stack {α : Type} (f : ℕ → α) : ℕ → List α
  | 0 => []
  | n + 1 => f n :: stack f n

theorem mem_stack {α : Type} {f : ℕ → α} {p : α} : ∀ {n : ℕ}, p ∈ stack f n ↔ ∃ k, k < n ∧ p = f k
  | 0 => by simp [stack]
  | n + 1 => by
    rw [stack, List.mem_cons, mem_stack]
    constructor
    · rintro (h | ⟨k, hk, h⟩)
      · exact ⟨n, by omega, h⟩
      · exact ⟨k, by omega, h⟩
    · rintro ⟨k, hk, h⟩
      rcases Nat.lt_or_ge k n with h' | h'
      · exact Or.inr ⟨k, h', h⟩
      · exact Or.inl (by rw [h]; congr 1; omega)

/-! ### One group of 128 columns of the input block -/

/-- The scale's word, at each of the group's columns. -/
def field (X : Vec F S512x128 .bf16) : IVec S512x128 16 := k0_pay230 (k0_pay227 X) (k0_pay228 X) k0_pay229
/-- The scale. -/
def scale (X : Vec F S512x128 .bf16) : FVec F S512x128 .bf16 := k0_pay231 (k0_pay227 X) (k0_pay228 X) k0_pay229
/-- The codes. -/
def codes (X : Vec F S512x128 .bf16) : FVec F S512x128 .fp8e4m3 := k0_pay232 (k0_pay225 X) (k0_pay227 X) (k0_pay228 X) k0_pay229
/-- The codes times the scale. -/
def deq (X : Vec F S512x128 .bf16) : FVec F S512x128 .bf16 := k0_pay233 (k0_pay225 X) (k0_pay227 X) (k0_pay228 X) k0_pay229

/-- The columns of group `g`. -/
def cols (g : ℕ) : Rect S512x4608 :=
  Rect.unit ![0, 128 * (g % 36)] ![512, 128] (fun a => match a with
    | ⟨0, _⟩ => le_refl 512
    | ⟨1, _⟩ => by show 128 * (g % 36) + 128 ≤ 4608; omega)

/-- The stores of the codes, and of the scaled codes: one per group. -/
def codesList (x : Vec F S512x4608 .bf16) : List (View.Piece (Elt F) S512x4608 .fp8e4m3) :=
  stack (fun g => (⟨cols g, codes (View.ld x (cols g))⟩ : View.Piece (Elt F) S512x4608 .fp8e4m3)) 36
def deqList (x : Vec F S512x4608 .bf16) : List (View.Piece (Elt F) S512x4608 .bf16) :=
  stack (fun g => (⟨cols g, deq (View.ld x (cols g))⟩ : View.Piece (Elt F) S512x4608 .bf16)) 36

/-- The scales gathered in the lanes of one register, group `g` in lane `g`, after the first `n` groups. -/
def gather (x : Vec F S512x4608 .bf16) : ℕ → FVec F S512x128 .bf16
  | 0 => k0_pay224
  | n + 1 => select (cmpi .eq (iota .tc S512x128 16 [1] iota_S512x128_d1_w16) (broadcast S512x128 (BitVec.ofNat 16 n))) (scale (View.ld x (cols n))) (gather x n)

/-- The scales' block. -/
def xsOut (x : Vec F S512x4608 .bf16) : FVec F S512x36 .f32 :=
  extf .f32 (extractStridedSlice S512x36 ![0, 0] (gather x 36) slices_S512x128_o0_0_S512x36) bitsLt_bf16_f32

/-! ### The weight, at the first point -/

/-- Tile `n = 36 b + g` of the first 512 rows, and tile `g` of the last 64. -/
def tile128 (n : ℕ) : Rect S576x4608 :=
  Rect.unit ![128 * (n / 36 % 4), 128 * (n % 36)] ![128, 128] (fun a => match a with
    | ⟨0, _⟩ => by show 128 * (n / 36 % 4) + 128 ≤ 576; omega
    | ⟨1, _⟩ => by show 128 * (n % 36) + 128 ≤ 4608; omega)
def tile64 (g : ℕ) : Rect S576x4608 :=
  Rect.unit ![512, 128 * (g % 36)] ![64, 128] (fun a => match a with
    | ⟨0, _⟩ => by show 512 + 64 ≤ 576; omega
    | ⟨1, _⟩ => by show 128 * (g % 36) + 128 ≤ 4608; omega)

/-- The scale of tile `(b, g)`. -/
def wsAt (ws : Vec F S5x36 .f32) (b g : ℕ) : Elt F .f32 :=
  View.ld ws (Rect.unit ![b % 5, g % 36] S1x1.size (fun a => match a with
    | ⟨0, _⟩ => by show b % 5 + 1 ≤ 5; omega
    | ⟨1, _⟩ => by show g % 36 + 1 ≤ 36; omega)) (Shape.Idx.first (show 0 < S1x1.numel by decide))

/-- The stores of the weight times its scales, tile by tile. -/
def wList128 (ws : Vec F S5x36 .f32) (W : Vec F S576x4608 .fp8e4m3) : List (View.Piece (Elt F) S576x4608 .bf16) :=
  stack (fun n => (⟨tile128 n, k0_pay42 (wsAt ws (n / 36 % 4) n) (View.ld W (tile128 n))⟩ : View.Piece (Elt F) S576x4608 .bf16)) 144
def wList64 (ws : Vec F S5x36 .f32) (W : Vec F S576x4608 .fp8e4m3) : List (View.Piece (Elt F) S576x4608 .bf16) :=
  stack (fun g => (⟨tile64 g, k0_pay223 (wsAt ws 4 g) (View.ld W (tile64 g))⟩ : View.Piece (Elt F) S576x4608 .bf16)) 36
def wOut (ws : Vec F S5x36 .f32) (W : Vec F S576x4608 .fp8e4m3) : Vec F S576x4608 .bf16 :=
  View.canon (wList64 ws W ++ wList128 ws W)

/-! ### The normalised columns and the rotated ones, from the scaled weight `w` and the scaled codes `d` -/

def cOut (w : Vec F S576x4608 .bf16) (d : Vec F S512x4608 .bf16) (gamma : Vec F S512x1 .bf16) : FVec F S512x512 .bf16 :=
  k0_pay526 w d gamma
def kOut (w : Vec F S576x4608 .bf16) (d : Vec F S512x4608 .bf16) (pos : Vec F S1x512 .i32) (freq : Vec F S64x1 .f32) : FVec F S512x64 .bf16 :=
  k0_pay1 (k0_pay527 w d) (k0_pay531 (k0_pay528 pos) (k0_pay529 freq)) (k0_pay532 (k0_pay528 pos) (k0_pay529 freq))
    (iota Kind.tc S64x512 32 [0] iota_S64x512_d0_w32) 2#32 0#32

end Cert.Proof.K

end
-- ==== Proof.KernelBlocks.lean ====
/-
  WHAT EVERY GRID POINT LEAVES, over its input blocks: the first point also scales the weight into the carried scratch, and
  every later point finds it there.
-/
module

public import proofs.«01_k».proof.Proof.Gen.KernelIdeal.Frame
public import proofs.«01_k».proof.Proof.KernelTerms
public import Idealize.ShloMosaic.Lib.Pipeline.ValueKit
public import Idealize.ShloMosaic.Lib.Pipeline.ReadBack

@[expose] public section

noncomputable section

namespace Cert.Proof.K

open Cert.KernelIdeal Cert.KernelIdeal.Gen Idealize.ShloMosaic Idealize.ShloMosaic.TcCoe Idealize.ShloMosaic.Tactic Idealize.SL.Sem

variable {F : FTy → Type} [FloatOps F]
variable (m : (ℓ : Loc nD τ sig) → Buf (Elt F) ℓ)

/-- The scaled codes of an input block, as the scratch holds them. -/
def dOut (x : Vec F S512x4608 .bf16) : Vec F S512x4608 .bf16 := View.canon (deqList x)

/-- A load of a whole array that stores cover reads what they leave. -/
theorem readCov_all {S : Shape} {e : EltTy} {κ : Kind} {sp : Space} (v : View sig κ sp S e) (L : List (View.Piece (Elt F) S e)) (off : Fin S.rank → ℕ)
    (inb : ∀ a, off a + S.size a ≤ S.size a) (h : ∀ a, off a = 0) :
    v.readCov L (Rect.unit (s := S) off S.size inb).toLoadRect = View.canon L := by
  rw [View.readCov_eq_canon']
  exact View.ld_unit_lit' inb (View.canon L) h

section
set_option maxRecDepth 16384 -- lists of 36 and of 180 stores

theorem codes_B (c : Dev nD) (t : Fin cfg0.N) (h0 : ¬t.val % 8 = 0) :
    (outsAt0 m c t.val t.isLt).2.2.1 = View.canon (codesList (iblk m c 0 t)) := by
  rw [outsAt0_B m c t h0]; frame_out; rfl

theorem codes_A (c : Dev nD) (t : Fin cfg0.N) (h0 : t.val % 8 = 0) :
    (outsAt0 m c t.val t.isLt).2.2.1 = View.canon (codesList (iblk m c 0 t)) := by
  rw [outsAt0_A m c t h0]; frame_out; rfl

theorem xs_B (c : Dev nD) (t : Fin cfg0.N) (h0 : ¬t.val % 8 = 0) :
    (outsAt0 m c t.val t.isLt).2.2.2.1 = xsOut (iblk m c 0 t) := by
  rw [outsAt0_B m c t h0]; frame_out; rfl

theorem xs_A (c : Dev nD) (t : Fin cfg0.N) (h0 : t.val % 8 = 0) :
    (outsAt0 m c t.val t.isLt).2.2.2.1 = xsOut (iblk m c 0 t) := by
  rw [outsAt0_A m c t h0]; frame_out; rfl

theorem w_A (c : Dev nD) (t : Fin cfg0.N) (h0 : t.val % 8 = 0) :
    (outsAt0 m c t.val t.isLt).2.2.2.2 = wOut (iblk m c 2 t) (iblk m c 1 t) := by
  rw [outsAt0_A m c t h0]
  frame_open
  refine (View.read_writes_junk_eq_canon ..).trans ?_
  show wOut ((ms0_2 t).view.read (Elt F) ((hs0_2 t).unread (iblk m c 2 t))) ((ms0_1 t).view.read (Elt F) ((hs0_1 t).unread (iblk m c 1 t))) = _
  rw [Memref.IsWhole.read_unread, Memref.IsWhole.read_unread]
  rfl

theorem w_B (c : Dev nD) (t : Fin cfg0.N) (h0 : ¬t.val % 8 = 0) :
    (outsAt0 m c t.val t.isLt).2.2.2.2 = (outsAt0 m c (t.val - 1) (by omega)).2.2.2.2 := by
  rw [outsAt0_B m c t h0]
  rfl

theorem c_A (c : Dev nD) (t : Fin cfg0.N) (h0 : t.val % 8 = 0) :
    (outsAt0 m c t.val t.isLt).1 = cOut (wOut (iblk m c 2 t) (iblk m c 1 t)) (dOut (iblk m c 0 t)) (iblk m c 3 t) := by
  rw [outsAt0_A m c t h0]
  frame_open
  refine (View.read_writes_junk_eq_canon ..).trans ((View.canon_cons_unit_lit' _ _ _ (by decide)).trans ?_)
  show cOut (scM0_0.view.readCov (wList64 ((ms0_2 t).view.read (Elt F) ((hs0_2 t).unread (iblk m c 2 t))) ((ms0_1 t).view.read (Elt F) ((hs0_1 t).unread (iblk m c 1 t)))
        ++ wList128 ((ms0_2 t).view.read (Elt F) ((hs0_2 t).unread (iblk m c 2 t))) ((ms0_1 t).view.read (Elt F) ((hs0_1 t).unread (iblk m c 1 t))))
        (Rect.unit (s := S576x4608) ![0, 0] S576x4608.size inb_S576x4608_S576x4608_0_0).toLoadRect)
      (scM0_1.view.readCov (deqList ((ms0_0 t).view.read (Elt F) ((hs0_0 t).unread (iblk m c 0 t))))
        (Rect.unit (s := S512x4608) ![0, 0] S512x4608.size inb_S512x4608_S512x4608_0_0).toLoadRect)
      (View.ld ((ms0_3 t).view.read (Elt F) ((hs0_3 t).unread (iblk m c 3 t))) (Rect.unit (s := S512x1) ![0, 0] S512x1.size inb_S512x1_S512x1_0_0)) = _
  rw [Memref.IsWhole.read_unread, Memref.IsWhole.read_unread, Memref.IsWhole.read_unread, Memref.IsWhole.read_unread, readCov_all _ _ _ _ (by decide),
    readCov_all _ _ _ _ (by decide), View.ld_unit_lit' _ _ (by decide)]

theorem c_B (c : Dev nD) (t : Fin cfg0.N) (h0 : ¬t.val % 8 = 0) :
    (outsAt0 m c t.val t.isLt).1 = cOut (outsAt0 m c (t.val - 1) (by omega)).2.2.2.2 (dOut (iblk m c 0 t)) (iblk m c 3 t) := by
  rw [outsAt0_B m c t h0]
  frame_out
  rw [read_unread_whole]
  show cOut _ (scM0_1.view.readCov (deqList (iblk m c 0 t))
        (Rect.unit (s := S512x4608) ![0, 0] S512x4608.size inb_S512x4608_S512x4608_0_0).toLoadRect) _ = _
  rw [readCov_all _ _ _ _ (by decide)]

theorem k_A (c : Dev nD) (t : Fin cfg0.N) (h0 : t.val % 8 = 0) :
    (outsAt0 m c t.val t.isLt).2.1 = kOut (wOut (iblk m c 2 t) (iblk m c 1 t)) (dOut (iblk m c 0 t)) (iblk m c 4 t) (iblk m c 5 t) := by
  rw [outsAt0_A m c t h0]
  frame_open
  refine (View.read_writes_junk_eq_canon ..).trans ((View.canon_cons_unit_lit' _ _ _ (by decide)).trans ?_)
  show kOut (scM0_0.view.readCov (wList64 ((ms0_2 t).view.read (Elt F) ((hs0_2 t).unread (iblk m c 2 t))) ((ms0_1 t).view.read (Elt F) ((hs0_1 t).unread (iblk m c 1 t)))
        ++ wList128 ((ms0_2 t).view.read (Elt F) ((hs0_2 t).unread (iblk m c 2 t))) ((ms0_1 t).view.read (Elt F) ((hs0_1 t).unread (iblk m c 1 t))))
        (Rect.unit (s := S576x4608) ![0, 0] S576x4608.size inb_S576x4608_S576x4608_0_0).toLoadRect)
      (scM0_1.view.readCov (deqList ((ms0_0 t).view.read (Elt F) ((hs0_0 t).unread (iblk m c 0 t))))
        (Rect.unit (s := S512x4608) ![0, 0] S512x4608.size inb_S512x4608_S512x4608_0_0).toLoadRect)
      (View.ld ((ms0_4 t).view.read (Elt F) ((hs0_4 t).unread (iblk m c 4 t))) (Rect.unit (s := S1x512) ![0, 0] S1x512.size inb_S1x512_S1x512_0_0))
      (View.ld ((ms0_5 t).view.read (Elt F) ((hs0_5 t).unread (iblk m c 5 t))) (Rect.unit (s := S64x1) ![0, 0] S64x1.size inb_S64x1_S64x1_0_0)) = _
  rw [Memref.IsWhole.read_unread, Memref.IsWhole.read_unread, Memref.IsWhole.read_unread, Memref.IsWhole.read_unread, Memref.IsWhole.read_unread,
    readCov_all _ _ _ _ (by decide), readCov_all _ _ _ _ (by decide), View.ld_unit_lit' _ _ (by decide), View.ld_unit_lit' _ _ (by decide)]

theorem k_B (c : Dev nD) (t : Fin cfg0.N) (h0 : ¬t.val % 8 = 0) :
    (outsAt0 m c t.val t.isLt).2.1 = kOut (outsAt0 m c (t.val - 1) (by omega)).2.2.2.2 (dOut (iblk m c 0 t)) (iblk m c 4 t) (iblk m c 5 t) := by
  rw [outsAt0_B m c t h0]
  frame_out
  show kOut (View.read (Elt F) (View.whole cc0_scratch0) ((Memref.isWhole_whole _).unread (outsAt0 m c (t.val - 1) _).2.2.2.2))
      (scM0_1.view.readCov (deqList (iblk m c 0 t))
        (Rect.unit (s := S512x4608) ![0, 0] S512x4608.size inb_S512x4608_S512x4608_0_0).toLoadRect) (iblk m c 4 t) (iblk m c 5 t) = _
  rw [read_unread_whole, readCov_all _ _ _ _ (by decide)]

end

/-! ### Every point -/

theorem codes_eq (c : Dev nD) (t : Fin cfg0.N) : (outsAt0 m c t.val t.isLt).2.2.1 = View.canon (codesList (iblk m c 0 t)) := by
  by_cases h : t.val % 8 = 0
  · exact codes_A m c t h
  · exact codes_B m c t h

theorem xs_eq (c : Dev nD) (t : Fin cfg0.N) : (outsAt0 m c t.val t.isLt).2.2.2.1 = xsOut (iblk m c 0 t) := by
  by_cases h : t.val % 8 = 0
  · exact xs_A m c t h
  · exact xs_B m c t h

/-- The scaled weight: what the first point computes. -/
def w0 (c : Dev nD) : Vec F S576x4608 .bf16 := wOut (iblk m c 2 (⟨0, by decide⟩ : Fin cfg0.N)) (iblk m c 1 (⟨0, by decide⟩ : Fin cfg0.N))

theorem w_eq (c : Dev nD) : ∀ (n : ℕ) (hn : n < cfg0.N), (outsAt0 m c n hn).2.2.2.2 = w0 m c
  | 0, hn => w_A m c ⟨0, hn⟩ rfl
  | n + 1, hn => by
    have h8 : n + 1 < 8 := lt_of_lt_of_eq hn (by decide)
    exact (w_B m c ⟨n + 1, hn⟩ (by show ¬(n + 1) % 8 = 0; omega)).trans (w_eq c n (by omega))

theorem c_eq (c : Dev nD) (t : Fin cfg0.N) : (outsAt0 m c t.val t.isLt).1 = cOut (w0 m c) (dOut (iblk m c 0 t)) (iblk m c 3 t) := by
  by_cases h : t.val % 8 = 0
  · rw [← w_eq m c t.val t.isLt, w_A m c t h]; exact c_A m c t h
  · rw [← w_eq m c (t.val - 1) (by omega)]; exact c_B m c t h

theorem k_eq (c : Dev nD) (t : Fin cfg0.N) :
    (outsAt0 m c t.val t.isLt).2.1 = kOut (w0 m c) (dOut (iblk m c 0 t)) (iblk m c 4 t) (iblk m c 5 t) := by
  by_cases h : t.val % 8 = 0
  · rw [← w_eq m c t.val t.isLt, w_A m c t h]; exact k_A m c t h
  · rw [← w_eq m c (t.val - 1) (by omega)]; exact k_B m c t h

end Cert.Proof.K

end
-- ==== Proof.Scale.lean ====
/-
  THE SCALE OF ONE GROUP. The kernel finds the power of two that scales a group by counting how many of 256 thresholds the
  group's largest absolute value `a` has reached, and writes the count into the exponent field of a bf16; the reference
  takes `2 ^ (⌊log₂ (a / 448)⌋ + 1)`. Both fall back to `1` where `a` is too small or not finite. This module states both
  as functions of `a : EReal` and proves them equal (`scaleK_eq`, `invK_eq`).
-/
module

public import Idealize.ShloMosaic.PureOps.Ideal
public import Idealize.ShloMosaic.Lib.IdealHost
public import Idealize.ShloMosaic.Lib.IndicatorCount

@[expose] public section

noncomputable section

namespace Cert.Proof.Scale

open Idealize.ShloMosaic

/-! ### Bit patterns of bf16 -/

/-- The bf16 with exponent field `E` (neither 0 nor all ones), fraction field `f` and a clear sign. -/
theorem ofBits_bf16 (E f : ℕ) (hE : 1 ≤ E) (hE' : E ≤ 254) (hf : f < 128) :
    Ideal.ofBits .bf16 (BitVec.ofNat 16 (128 * E + f)) = (((128 + f : ℕ) : ℝ) * (2 : ℝ) ^ ((E : ℤ) - 134) : ℝ) := by
  have h0 : (BitVec.ofNat 16 (128 * E + f)).toNat = 128 * E + f := by
    rw [BitVec.toNat_ofNat]; exact Nat.mod_eq_of_lt (by omega)
  have hs : (BitVec.extractLsb' 15 1 (BitVec.ofNat 16 (128 * E + f)) == 1#1) = false := by
    rw [beq_eq_false_iff_ne]; intro h
    have h' := congrArg BitVec.toNat h
    rw [BitVec.extractLsb'_toNat, h0, Nat.shiftRight_eq_div_pow] at h'
    simp at h'; omega
  have hx : (BitVec.extractLsb' 7 8 (BitVec.ofNat 16 (128 * E + f))).toNat = E := by
    rw [BitVec.extractLsb'_toNat, h0, Nat.shiftRight_eq_div_pow]; omega
  have hr : (BitVec.extractLsb' 0 7 (BitVec.ofNat 16 (128 * E + f))).toNat = f := by
    rw [BitVec.extractLsb'_toNat, h0, Nat.shiftRight_eq_div_pow]; omega
  show Ideal.ieee 8 7 _ = _
  unfold Ideal.ieee
  simp only [hs, hx, hr, Nat.reduceAdd]
  rw [if_neg (by omega), if_neg (by omega)]
  have e : ((E : ℤ) - (2 ^ (8 - 1) - 1) - (7 : ℕ)) = (E : ℤ) - 134 := by norm_num; ring
  rw [e]; simp

/-- A power of two as a bf16: the fraction field is zero. -/
theorem ofBits_bf16_pow (E : ℕ) (hE : 1 ≤ E) (hE' : E ≤ 254) :
    Ideal.ofBits .bf16 (BitVec.ofNat 16 (128 * E)) = ((2 : ℝ) ^ ((E : ℤ) - 127) : ℝ) := by
  have h := ofBits_bf16 E 0 hE hE' (by norm_num)
  rw [Nat.add_zero] at h
  rw [h]; congr 1
  rw [show (E : ℤ) - 127 = 7 + ((E : ℤ) - 134) by ring, zpow_add₀ (by norm_num : (2 : ℝ) ≠ 0)]
  norm_num

theorem ofBits_bf16_inf : Ideal.ofBits .bf16 0x7F80#16 = ⊤ := by simp [Ideal.ofBits, Ideal.ieee]

theorem ofBits_bf16_sub : Ideal.ofBits .bf16 96#16 = ((96 * (2 : ℝ) ^ (-133 : ℤ) : ℝ) : EReal) := by
  simp [Ideal.ofBits, Ideal.ieee, -EReal.coe_mul]

theorem ofBits_lo : Ideal.ofBits .bf16 0x04E0#16 = ((1.75 * (2 : ℝ) ^ (-118 : ℤ) : ℝ) : EReal) := by
  rw [show (0x04E0#16 : BitVec 16) = BitVec.ofNat 16 (128 * 9 + 96) from rfl, ofBits_bf16 9 96 (by norm_num) (by norm_num) (by norm_num)]
  norm_num

theorem ofBits_hi : Ideal.ofBits .bf16 0x7F7F#16 = ((255 * (2 : ℝ) ^ (120 : ℤ) : ℝ) : EReal) := by
  rw [show (0x7F7F#16 : BitVec 16) = BitVec.ofNat 16 (128 * 254 + 127) from rfl, ofBits_bf16 254 127 (by norm_num) (by norm_num) (by norm_num)]
  norm_num

/-! ### Bit patterns of f32 -/

theorem f32_tiny : Ideal.ofBits .f32 0x00800000#32 = (((2 : ℝ) ^ (-126 : ℤ) : ℝ) : EReal) := by
  simp [Ideal.ofBits, Ideal.ieee, -EReal.coe_mul]; norm_num

theorem f32_hi : Ideal.ofBits .f32 0x7F7F0000#32 = ((255 * (2 : ℝ) ^ (120 : ℤ) : ℝ) : EReal) := by
  simp [Ideal.ofBits, Ideal.ieee, -EReal.coe_mul]; norm_num

theorem f32_two : Ideal.ofBits .f32 0x40000000#32 = ((2 : ℝ) : EReal) := by
  simp [Ideal.ofBits, Ideal.ieee, -EReal.coe_mul]; norm_num

/-- The mean's divisor and the reciprocal that stands for it. -/
theorem f32_512 : Ideal.ofBits .f32 0x44000000#32 = ((512 : ℝ) : EReal) := by
  simp [Ideal.ofBits, Ideal.ieee, -EReal.coe_mul]; norm_num

theorem f32_inv512 : Ideal.ofBits .f32 0x3B000000#32 = ((1 / 512 : ℝ) : EReal) := by
  simp [Ideal.ofBits, Ideal.ieee, -EReal.coe_mul]; norm_num

theorem div_512 (x : EReal) : Ideal.div x (Ideal.ofBits .f32 0x44000000#32) = x * Ideal.ofBits .f32 0x3B000000#32 := by
  rw [f32_512, f32_inv512, Ideal.div_coe (by norm_num)]

/-! ### The kernel's scale -/

/-- The word of threshold `l`: the least bf16 that, rounded up from three quarters of its binade, has exponent field `l + 1`. -/
def thrWord (l : BitVec 16) : BitVec 16 :=
  IntOp.minsi (IntOp.subi (IntOp.shli .vector (IntOp.addi l 1#16) 7#16) 32#16) 32640#16

/-- Threshold `l`. -/
def thr (l : ℕ) : EReal := Ideal.ofBits .bf16 (thrWord (BitVec.ofNat 16 l))

/-- How many of the 256 thresholds `a` has reached. -/
def count (a : EReal) : ℕ := (Finset.univ.filter fun l : Fin 256 => thr l.val ≤ a).card

/-- `a` is a normal number of the scale's range: neither too small nor infinite. -/
def okK (a : EReal) : Prop := Ideal.ofBits .bf16 0x04E0#16 ≤ a ∧ a ≤ Ideal.ofBits .bf16 0x7F7F#16

open Classical in
/-- The count as the exponent field of a word; outside the range, the word of `1` times `2 ^ 8`. -/
def fieldK (a : EReal) : BitVec 16 := if okK a then BitVec.ofNat 16 (128 * count a) else 17280#16

/-- The kernel's scale, and its reciprocal. -/
def scaleK (a : EReal) : EReal := Ideal.ofBits .bf16 (fieldK a - 1024#16)
def invK (a : EReal) : EReal := Ideal.ofBits .bf16 (33536#16 - fieldK a)

/-- The count shifted into the exponent field and cut to a half word. -/
theorem shl_count (n : ℕ) : (IntOp.shli .vector (BitVec.ofNat 32 n) 7#32).setWidth 16 = BitVec.ofNat 16 (128 * n) := by
  apply BitVec.eq_of_toNat_eq
  rw [IntOp.shli, if_pos (by decide)]
  simp only [BitVec.toNat_setWidth, BitVec.shiftLeft_eq', BitVec.toNat_shiftLeft, BitVec.toNat_ofNat, Nat.shiftLeft_eq, Nat.reducePow, Nat.reduceMod]
  omega

theorem thrWord_zero : thrWord 0#16 = 96#16 := by decide
theorem thrWord_last : thrWord 255#16 = 32640#16 := by decide
theorem thrWord_mid : ∀ l : Fin 256, 1 ≤ l.val → l.val ≤ 254 → thrWord (BitVec.ofNat 16 l.val) = BitVec.ofNat 16 (128 * l.val + 96) := by
  decide +kernel

theorem thr_mid (l : Fin 256) (h : 1 ≤ l.val) (h' : l.val ≤ 254) :
    thr l.val = ((1.75 * (2 : ℝ) ^ ((l.val : ℤ) - 127) : ℝ) : EReal) := by
  rw [thr, thrWord_mid l h h', ofBits_bf16 _ _ h h' (by norm_num)]
  congr 1
  rw [show (l.val : ℤ) - 127 = 7 + ((l.val : ℤ) - 134) by ring, zpow_add₀ (by norm_num : (2 : ℝ) ≠ 0)]
  norm_num; ring

/-- A real in the range lies in one step between two thresholds. -/
theorem exists_step {r : ℝ} (h : 1.75 * (2 : ℝ) ^ (-118 : ℤ) ≤ r) (h' : r ≤ 255 * (2 : ℝ) ^ (120 : ℤ)) :
    ∃ n : ℤ, -118 ≤ n ∧ n ≤ 127 ∧ 1.75 * (2 : ℝ) ^ n ≤ r ∧ r < 1.75 * (2 : ℝ) ^ (n + 1) := by
  have hr : 0 < r := lt_of_lt_of_le (by positivity) h
  obtain ⟨n, h1, h2⟩ := exists_mem_Ico_zpow (x := r / 1.75) (y := (2 : ℝ)) (by positivity) (by norm_num)
  have h1' : 1.75 * (2 : ℝ) ^ n ≤ r := by
    have := mul_le_mul_of_nonneg_left h1 (show (0 : ℝ) ≤ 1.75 by norm_num)
    rwa [mul_div_cancel₀ _ (by norm_num : (1.75 : ℝ) ≠ 0)] at this
  have h2' : r < 1.75 * (2 : ℝ) ^ (n + 1) := by
    have := mul_lt_mul_of_pos_left h2 (show (0 : ℝ) < 1.75 by norm_num)
    rwa [mul_div_cancel₀ _ (by norm_num : (1.75 : ℝ) ≠ 0)] at this
  refine ⟨n, ?_, ?_, h1', h2'⟩
  · have : (2 : ℝ) ^ (-118 : ℤ) < (2 : ℝ) ^ (n + 1) := by
      have := lt_of_le_of_lt h h2'
      exact lt_of_mul_lt_mul_left this (by norm_num)
    have := (zpow_lt_zpow_iff_right₀ (by norm_num : (1 : ℝ) < 2)).mp this
    omega
  · have : 1.75 * (2 : ℝ) ^ n < 1.75 * (2 : ℝ) ^ (128 : ℤ) := by
      refine lt_of_le_of_lt (h1'.trans h') ?_
      rw [show (128 : ℤ) = 8 + 120 by norm_num, zpow_add₀ (by norm_num : (2 : ℝ) ≠ 0), ← mul_assoc]
      exact mul_lt_mul_of_pos_right (by norm_num) (by positivity)
    have := (zpow_lt_zpow_iff_right₀ (by norm_num : (1 : ℝ) < 2)).mp (lt_of_mul_lt_mul_left this (by norm_num))
    omega

/-- In that step the count is the step's number. -/
theorem count_eq {r : ℝ} {n : ℤ} (hn : -118 ≤ n) (hn' : n ≤ 127) (h1 : 1.75 * (2 : ℝ) ^ n ≤ r) (h2 : r < 1.75 * (2 : ℝ) ^ (n + 1)) :
    count (r : EReal) = (n + 128).toNat := by
  have hiff : ∀ l : Fin 256, thr l.val ≤ (r : EReal) ↔ l.val < (n + 128).toNat := by
    intro l
    have hl := l.isLt
    rcases Nat.eq_zero_or_pos l.val with h0 | h0
    · rw [h0, thr, show BitVec.ofNat 16 0 = 0#16 from rfl, thrWord_zero, ofBits_bf16_sub, EReal.coe_le_coe_iff]
      refine iff_of_true ?_ (by omega)
      refine le_trans ?_ h1
      have : (2 : ℝ) ^ (-118 : ℤ) ≤ (2 : ℝ) ^ n := zpow_le_zpow_right₀ (by norm_num) hn
      refine le_trans ?_ (mul_le_mul_of_nonneg_left this (by norm_num))
      rw [show (-118 : ℤ) = 15 + (-133) by norm_num, zpow_add₀ (by norm_num : (2 : ℝ) ≠ 0), ← mul_assoc]
      exact mul_le_mul_of_nonneg_right (by norm_num) (by positivity)
    · rcases Nat.lt_or_ge 254 l.val with h9 | h9
      · have h255 : l.val = 255 := by omega
        rw [h255, thr, show BitVec.ofNat 16 255 = 255#16 from rfl, thrWord_last, show (32640#16 : BitVec 16) = 0x7F80#16 from rfl, ofBits_bf16_inf]
        refine iff_of_false (not_le.mpr (EReal.coe_lt_top r)) (by omega)
      · rw [thr_mid l h0 h9, EReal.coe_le_coe_iff]
        constructor
        · intro h
          have := (zpow_lt_zpow_iff_right₀ (by norm_num : (1 : ℝ) < 2)).mp (lt_of_mul_lt_mul_left (lt_of_le_of_lt h h2) (by norm_num))
          omega
        · intro h
          refine le_trans (mul_le_mul_of_nonneg_left (zpow_le_zpow_right₀ (by norm_num) ?_) (by norm_num)) h1
          omega
  rw [count, Finset.filter_congr (fun l _ => hiff l)]
  have : (n + 128).toNat ≤ 256 := by omega
  rw [Fin.card_filter_val_lt]; omega

theorem scaleK_of_step {r : ℝ} {n : ℤ} (hok : okK (r : EReal)) (hn : -118 ≤ n) (hn' : n ≤ 127) (h1 : 1.75 * (2 : ℝ) ^ n ≤ r)
    (h2 : r < 1.75 * (2 : ℝ) ^ (n + 1)) :
    scaleK (r : EReal) = ((2 : ℝ) ^ (n - 7) : ℝ) ∧ invK (r : EReal) = ((2 : ℝ) ^ (7 - n) : ℝ) := by
  obtain ⟨k, rfl⟩ : ∃ k : ℕ, n = (k : ℤ) - 128 := ⟨(n + 128).toNat, by omega⟩
  have hc : count (r : EReal) = k := by rw [count_eq hn hn' h1 h2]; omega
  have hf : fieldK (r : EReal) = BitVec.ofNat 16 (128 * k) := by rw [fieldK, if_pos hok, hc]
  constructor
  · have e : fieldK (r : EReal) - 1024#16 = BitVec.ofNat 16 (128 * (k - 8)) := by
      rw [hf]; apply BitVec.eq_of_toNat_eq; simp only [BitVec.toNat_sub, BitVec.toNat_ofNat]; omega
    rw [scaleK, e, ofBits_bf16_pow _ (by omega) (by omega)]
    congr 2; omega
  · have e : 33536#16 - fieldK (r : EReal) = BitVec.ofNat 16 (128 * (262 - k)) := by
      rw [hf]; apply BitVec.eq_of_toNat_eq; simp only [BitVec.toNat_sub, BitVec.toNat_ofNat]; omega
    rw [invK, e, ofBits_bf16_pow _ (by omega) (by omega)]
    congr 2; omega

theorem scaleK_of_not {a : EReal} (hok : ¬okK a) : scaleK a = 1 ∧ invK a = 1 := by
  rw [scaleK, invK, fieldK, if_neg hok]
  exact ⟨Ideal.ofBits_one_bf16, Ideal.ofBits_one_bf16⟩

/-! ### The reference's scale -/

/-- The exponent of the scale: `frexp`'s, written out; `0` at the edges. -/
def expR (a : EReal) : EReal :=
  Scalar.select
    (IntOp.andi (Ideal.cmp .oge (a * ((1 / 448 : ℝ) : EReal)) (Ideal.ofBits .f32 0x00800000#32))
      (Ideal.cmp .ole a (Ideal.ofBits .f32 0x7F7F0000#32)))
    (Ideal.liftRound Int.floor (Ideal.div (Ideal.log (a * ((1 / 448 : ℝ) : EReal))) (Ideal.log (Ideal.ofBits .f32 0x40000000#32)))
      + Ideal.ofBits .f32 0x3F800000#32)
    (Ideal.ofBits .f32 0x00000000#32)

def scaleR (a : EReal) : EReal := Ideal.exp2 (expR a)
def invR (a : EReal) : EReal := Ideal.exp2 (Ideal.ofBits .f32 0x00000000#32 - expR a)

/-- The two range tests agree. -/
theorem ok_iff (a : EReal) :
    IntOp.andi (Ideal.cmp .oge (a * ((1 / 448 : ℝ) : EReal)) (Ideal.ofBits .f32 0x00800000#32))
      (Ideal.cmp .ole a (Ideal.ofBits .f32 0x7F7F0000#32)) = 1#1 ↔ okK a := by
  have hand : ∀ p q : Bool, IntOp.andi (BitVec.ofBool p) (BitVec.ofBool q) = 1#1 ↔ (p = true ∧ q = true) := by decide
  rw [okK, ofBits_lo, ofBits_hi, f32_tiny, f32_hi]
  show IntOp.andi (BitVec.ofBool _) (BitVec.ofBool _) = 1#1 ↔ _
  rw [hand, decide_eq_true_iff, decide_eq_true_iff]
  refine and_congr_left fun _ => ?_
  induction a with
  | bot =>
    rw [EReal.bot_mul_coe_of_pos (by norm_num)]
    exact iff_of_false (not_le.mpr (EReal.bot_lt_coe _)) (not_le.mpr (EReal.bot_lt_coe _))
  | top => rw [EReal.top_mul_coe_of_pos (by norm_num)]; exact iff_of_true le_top le_top
  | coe r =>
    rw [← EReal.coe_mul, EReal.coe_le_coe_iff, EReal.coe_le_coe_iff]
    rw [show (1.75 : ℝ) * (2 : ℝ) ^ (-118 : ℤ) = 448 * (2 : ℝ) ^ (-126 : ℤ) by norm_num]
    generalize (2 : ℝ) ^ (-126 : ℤ) = z
    constructor <;> intro h <;> linarith

/-- A selection as a choice on its condition's bit. -/
theorem select_eq (c : BitVec 1) (x y : EReal) : Scalar.select c x y = if c = 1#1 then x else y := rfl

/-- The floor of the base 2 logarithm, between two powers. -/
theorem floor_log {q : ℝ} {k : ℤ} (h1 : (2 : ℝ) ^ k ≤ q) (h2 : q < (2 : ℝ) ^ (k + 1)) : ⌊Real.log q * (1 / Real.log 2)⌋ = k := by
  have hl : 0 < Real.log 2 := Real.log_pos (by norm_num)
  have hq : 0 < q := lt_of_lt_of_le (by positivity) h1
  have e1 := Real.log_le_log (by positivity) h1
  have e2 := Real.log_lt_log hq h2
  rw [Real.log_zpow] at e1 e2
  rw [mul_one_div, Int.floor_eq_iff, le_div_iff₀ hl, div_lt_iff₀ hl]
  exact ⟨e1, by exact_mod_cast e2⟩

theorem expR_of_step {r : ℝ} {n : ℤ} (hok : okK (r : EReal)) (h1 : 1.75 * (2 : ℝ) ^ n ≤ r) (h2 : r < 1.75 * (2 : ℝ) ^ (n + 1)) :
    expR (r : EReal) = (((n - 7 : ℤ) : ℝ) : EReal) := by
  have hr : 0 < r := lt_of_lt_of_le (by positivity) h1
  have hfl : ⌊Real.log (r * (1 / 448)) * (1 / Real.log 2)⌋ = n - 8 := by
    have e : ∀ k : ℤ, (2 : ℝ) ^ (k - 8) = 1.75 * (2 : ℝ) ^ k * (1 / 448) := fun k => by
      rw [zpow_sub₀ (by norm_num : (2 : ℝ) ≠ 0)]; norm_num; ring
    refine floor_log ?_ ?_
    · rw [e]; exact mul_le_mul_of_nonneg_right h1 (by norm_num)
    · rw [show n - 8 + 1 = n + 1 - 8 by ring, e]; exact mul_lt_mul_of_pos_right h2 (by norm_num)
  rw [expR, select_eq, if_pos ((ok_iff _).mpr hok), ← EReal.coe_mul, Ideal.log_coe, if_neg (by push Not; positivity), f32_two, Ideal.log_coe,
    if_neg (by norm_num), Ideal.div_coe (Real.log_pos (by norm_num)).ne', ← EReal.coe_mul, Ideal.liftRound_coe, Ideal.ofBits_one_f32]
  rw [hfl]
  rw [← EReal.coe_one, ← EReal.coe_add]
  congr 1; push_cast; ring

theorem expR_of_not {a : EReal} (hok : ¬okK a) : expR a = 0 := by
  rw [expR, select_eq, if_neg (fun h => hok ((ok_iff _).mp h)), Ideal.ofBits_zero_f32]

/-- The kernel's scale is the reference's, and so are the reciprocals. -/
theorem scale_inv_eq (a : EReal) : scaleK a = scaleR a ∧ invK a = invR a := by
  by_cases hok : okK a
  · have hlo := hok.1; have hhi := hok.2
    rw [ofBits_lo] at hlo; rw [ofBits_hi] at hhi
    induction a with
    | bot => exact absurd hlo (not_le.mpr (EReal.bot_lt_coe _))
    | top => exact absurd hhi (not_le.mpr (EReal.coe_lt_top _))
    | coe r =>
      obtain ⟨n, hn, hn', h1, h2⟩ := exists_step (EReal.coe_le_coe_iff.mp hlo) (EReal.coe_le_coe_iff.mp hhi)
      obtain ⟨hs, hi⟩ := scaleK_of_step hok hn hn' h1 h2
      rw [hs, hi, scaleR, invR, expR_of_step hok h1 h2, Ideal.ofBits_zero_f32, zero_sub, ← EReal.coe_neg, Ideal.exp2_coe, Ideal.exp2_coe]
      constructor
      · congr 1; exact (Real.rpow_intCast 2 (n - 7)).symm
      · congr 1
        rw [show -((n - 7 : ℤ) : ℝ) = ((7 - n : ℤ) : ℝ) by push_cast; ring]
        exact (Real.rpow_intCast 2 (7 - n)).symm
  · obtain ⟨hs, hi⟩ := scaleK_of_not hok
    have e : Ideal.exp2 (0 : EReal) = 1 := by
      rw [← EReal.coe_zero, Ideal.exp2_coe]; show ((((2 : ℝ) ^ (0 : ℝ)) : ℝ) : EReal) = 1; rw [Real.rpow_zero]; rfl
    rw [hs, hi, scaleR, invR, expR_of_not hok, Ideal.ofBits_zero_f32, sub_zero, e]
    exact ⟨rfl, rfl⟩

theorem scaleK_eq (a : EReal) : scaleK a = scaleR a := (scale_inv_eq a).1
theorem invK_eq (a : EReal) : invK a = invR a := (scale_inv_eq a).2

/-! ### The words the printed programs compute with, as these functions -/

theorem ofBits_bf16_bot : Ideal.ofBits .bf16 0xFF80#16 = ⊥ := by simp [Ideal.ofBits, Ideal.ieee]
theorem ofBits_f32_bot : Ideal.ofBits .f32 0xFF800000#32 = ⊥ := by simp [Ideal.ofBits, Ideal.ieee]
theorem ofBits_bf16_zero : Ideal.ofBits .bf16 0x0000#16 = 0 := by simp [Ideal.ofBits, Ideal.ieee]

/-- Adding up a one for every threshold reached is the count. -/
theorem fold_count (a : EReal) :
    Finset.fold IntOp.addi (0#32) (fun x : Fin 256 => if Ideal.ofBits .bf16 (thrWord (BitVec.ofNat 16 x.val)) ≤ a then 1#32 else 0#32) Finset.univ
      = BitVec.ofNat 32 (count a) := by
  rw [show (fun x : Fin 256 => if Ideal.ofBits .bf16 (thrWord (BitVec.ofNat 16 x.val)) ≤ a then 1#32 else 0#32)
      = fun x : Fin 256 => (BitVec.ofBool (decide (thr x.val ≤ a))).setWidth 32 from funext fun x => by
    show (if thr x.val ≤ a then 1#32 else 0#32) = _
    by_cases h : thr x.val ≤ a <;> simp [h]]
  rw [Idealize.ShloMosaic.IndicatorCount.fold_addi_setWidth_eq_card, count]
  congr 2
  exact Finset.filter_congr fun x _ => by by_cases h : thr x.val ≤ a <;> simp [h]

/-- The selected word is `fieldK`. -/
theorem select_field (a : EReal) (wd : BitVec 16) (h : wd = BitVec.ofNat 16 (128 * count a)) :
    Scalar.select (IntOp.andi (BitVec.ofBool (decide (Ideal.ofBits .bf16 0x04E0#16 ≤ a))) (BitVec.ofBool (decide (a ≤ Ideal.ofBits .bf16 0x7F7F#16))))
      wd 17280#16 = fieldK a := by
  rw [h, fieldK, okK]
  by_cases h1 : Ideal.ofBits .bf16 0x04E0#16 ≤ a <;> by_cases h2 : a ≤ Ideal.ofBits .bf16 0x7F7F#16 <;> simp [h1, h2, Scalar.select, IntOp.andi]

/-! ### One group -/

/-- The largest absolute value of a group. -/
def amax (row : Fin 128 → EReal) : EReal := Finset.univ.fold max ⊥ fun j => max (row j) (-(row j))

/-- The code of `v` in a group whose largest absolute value is `a`: `v` divided by the scale, clipped to the range of the codes. -/
def code (a v : EReal) : EReal := min (Ideal.ofBits .f32 0x43E00000#32) (max (Ideal.ofBits .f32 0xC3E00000#32) (v * invR a))

end Cert.Proof.Scale

end
-- ==== Proof.KernelValues.lean ====
/-
  THE KERNEL'S BLOCKS AT AN INDEX, over the extended reals: the codes, the scaled codes and the scales of a block of 512 rows,
  and the scaled weight.
-/
module

public import proofs.«01_k».proof.Proof.KernelBlocks
public import proofs.«01_k».proof.Proof.Scale
public import Idealize.ShloMosaic.Lib.Pointwise

@[expose] public section

noncomputable section

namespace Cert.Proof.K

open Cert.KernelIdeal Cert.KernelIdeal.Gen Idealize.ShloMosaic Idealize.ShloMosaic.TcCoe Idealize.SL.Sem Cert.Proof.Scale

/-! ### One group -/

/-- The group's largest absolute value in row `r`. -/
theorem max_ix (X : Vec Ideal S512x128 .bf16) (r : Fin 512) : k0_pay226 X (ix2 r 0) = amax fun j => X (ix2 r j) := by
  pointwise [k0_pay226, k0_pay225]
  rw [ofBits_bf16_bot]
  rfl

theorem field_ix (X : Vec Ideal S512x128 .bf16) (r : Fin 512) (l : Fin 128) : field X (ix2 r l) = fieldK (amax fun j => X (ix2 r j)) := by
  rw [← max_ix X r]
  pointwise [field, k0_pay230, k0_pay229, k0_pay228, k0_pay227]
  refine select_field (k0_pay226 X (ix2 r 0)) _ (Eq.trans ?_ (shl_count (count (k0_pay226 X (ix2 r 0)))))
  exact congrArg (fun z => BitVec.setWidth 16 (IntOp.shli ArithUnit.vector z 7#32)) (fold_count (k0_pay226 X (ix2 r 0)))

theorem scale_ix (X : Vec Ideal S512x128 .bf16) (r : Fin 512) (l : Fin 128) : scale X (ix2 r l) = scaleR (amax fun j => X (ix2 r j)) := by
  rw [← scaleK_eq, scaleK, ← field_ix X r l]
  rfl

theorem codes_ix (X : Vec Ideal S512x128 .bf16) (r : Fin 512) (l : Fin 128) : codes X (ix2 r l) = code (amax fun j => X (ix2 r j)) (X (ix2 r l)) := by
  rw [code, ← invK_eq, invK, ← field_ix X r l]
  pointwise [codes, k0_pay232, k0_pay225]
  rfl

theorem deq_ix (X : Vec Ideal S512x128 .bf16) (r : Fin 512) (l : Fin 128) :
    deq X (ix2 r l) = code (amax fun j => X (ix2 r j)) (X (ix2 r l)) * scaleR (amax fun j => X (ix2 r j)) := by
  rw [← codes_ix, ← scale_ix X r l]
  pointwise [deq, k0_pay233]
  rfl

/-! ### The block -/

/-- Column `j` of the group that holds column `k`. -/
def colOf (k : Fin 4608) (j : Fin 128) : Fin 4608 := ⟨128 * (k.val / 128) + j.val, by have := k.isLt; omega⟩

theorem cols_emb (g : ℕ) (r : Fin 512) (l : Fin 128) : (cols g).emb (ix2 r l) = ix2 r (⟨128 * (g % 36) + l.val, by omega⟩ : Fin 4608) := by
  funext a; apply Fin.ext
  match a with
  | ⟨0, _⟩ => show 0 + 1 * r.val = r.val; omega
  | ⟨1, _⟩ => show 128 * (g % 36) + 1 * l.val = 128 * (g % 36) + l.val; omega

theorem ld_cols (x : Vec Ideal S512x4608 .bf16) (g : ℕ) (r : Fin 512) (l : Fin 128) :
    View.ld x (cols g) (ix2 r l) = x (ix2 r (⟨128 * (g % 36) + l.val, by omega⟩ : Fin 4608)) :=
  congrArg x (cols_emb g r l)

theorem mem_cols (g : ℕ) (y : S512x4608.Idx) (hk : (y 1).val / 128 = g % 36) : y ∈ (cols g).set := by
  unfold cols
  rw [Rect.mem_set_unit]
  intro a
  match a with
  | ⟨0, _⟩ => exact ⟨Nat.zero_le _, by have : (y 0).val < 512 := (y 0).isLt; show (y 0).val < 0 + 512; omega⟩
  | ⟨1, _⟩ => exact ⟨by show 128 * (g % 36) ≤ (y 1).val; omega, by show (y 1).val < 128 * (g % 36) + 128; omega⟩

/-- Every column of the block lies in some group's columns. -/
theorem cols_cover {e : EltTy} (f : (g : ℕ) → (cols g).shape.Idx → Elt Ideal e) (y : S512x4608.Idx) :
    ∃ p ∈ stack (fun g => (⟨cols g, f g⟩ : View.Piece (Elt Ideal) S512x4608 e)) 36, y ∈ p.1.set := by
  have hk : (y 1).val < 4608 := (y 1).isLt
  exact ⟨_, mem_stack.mpr ⟨(y 1).val / 128, by omega, rfl⟩, mem_cols _ y (by omega)⟩

/-- The row's part in the group of column `k`. -/
def rowAt (x : Vec Ideal S512x4608 .bf16) (r : Fin 512) (k : Fin 4608) : Fin 128 → EReal := fun j => x (ix2 r (colOf k j))

theorem ld_row (x : Vec Ideal S512x4608 .bf16) (g : ℕ) (r : Fin 512) (l : Fin 128) :
    (fun j => View.ld x (cols g) (ix2 r j)) = rowAt x r (⟨128 * (g % 36) + l.val, by omega⟩ : Fin 4608) := by
  funext j
  rw [ld_cols]
  show x _ = x _
  congr 2
  apply Fin.ext
  show 128 * (g % 36) + j.val = 128 * ((128 * (g % 36) + l.val) / 128) + j.val
  omega

theorem codes_canon (x : Vec Ideal S512x4608 .bf16) (r : Fin 512) (k : Fin 4608) :
    View.canon (codesList x) (ix2 r k) = code (amax (rowAt x r k)) (x (ix2 r k)) := by
  refine View.canon_apply_of_pieces (fun y : S512x4608.Idx => code (amax (rowAt x (y 0) (y 1))) (x y)) (codesList x) ?_ (ix2 r k) (cols_cover _ _)
  intro p hp z
  obtain ⟨g, _, rfl⟩ := mem_stack.mp hp
  obtain ⟨r', l', rfl⟩ : ∃ (r' : Fin 512) (l' : Fin 128), z = ix2 r' l' := ⟨z 0, z 1, eq_ix2 z⟩
  show codes (View.ld x (cols g)) (ix2 r' l') = code (amax (rowAt x ((cols g).emb (ix2 r' l') 0) ((cols g).emb (ix2 r' l') 1))) (x ((cols g).emb (ix2 r' l')))
  refine (codes_ix (View.ld x (cols g)) r' l').trans ?_
  rw [ld_row x g r' l', ld_cols, cols_emb]
  rfl

theorem deq_canon (x : Vec Ideal S512x4608 .bf16) (r : Fin 512) (k : Fin 4608) :
    dOut x (ix2 r k) = code (amax (rowAt x r k)) (x (ix2 r k)) * scaleR (amax (rowAt x r k)) := by
  refine View.canon_apply_of_pieces (fun y : S512x4608.Idx => code (amax (rowAt x (y 0) (y 1))) (x y) * scaleR (amax (rowAt x (y 0) (y 1)))) (deqList x) ?_ (ix2 r k) (cols_cover _ _)
  intro p hp z
  obtain ⟨g, _, rfl⟩ := mem_stack.mp hp
  obtain ⟨r', l', rfl⟩ : ∃ (r' : Fin 512) (l' : Fin 128), z = ix2 r' l' := ⟨z 0, z 1, eq_ix2 z⟩
  show deq (View.ld x (cols g)) (ix2 r' l') = code (amax (rowAt x ((cols g).emb (ix2 r' l') 0) ((cols g).emb (ix2 r' l') 1))) (x ((cols g).emb (ix2 r' l')))
    * scaleR (amax (rowAt x ((cols g).emb (ix2 r' l') 0) ((cols g).emb (ix2 r' l') 1)))
  refine (deq_ix (View.ld x (cols g)) r' l').trans ?_
  rw [ld_row x g r' l', ld_cols, cols_emb]
  rfl

/-! ### The scales' block -/

/-- A select on the comparison of two small numbers' words. -/
theorem select_word {α : Type} (l n : ℕ) (hl : l < 65536) (hn : n < 65536) (a b : α) :
    Scalar.select (IntOp.cmpi .eq (BitVec.ofNat 16 l) (BitVec.ofNat 16 n)) a b = if l = n then a else b := by
  by_cases h : l = n
  · rw [if_pos h, h]; simp [Scalar.select, IntOp.cmpi]
  · have h' : (BitVec.ofNat 16 l == BitVec.ofNat 16 n) = false := by
      rw [beq_eq_false_iff_ne]
      intro h'
      have e := congrArg BitVec.toNat h'
      rw [BitVec.toNat_ofNat, BitVec.toNat_ofNat, Nat.mod_eq_of_lt (by omega), Nat.mod_eq_of_lt (by omega)] at e
      exact h e
    rw [if_neg h]; simp [Scalar.select, IntOp.cmpi, h']

theorem gather_ix (x : Vec Ideal S512x4608 .bf16) (r : Fin 512) (l : Fin 128) : ∀ n : ℕ, n ≤ 36 →
    gather x n (ix2 r l) = if l.val < n then scale (View.ld x (cols l.val)) (ix2 r l) else 0
  | 0, _ => by
    rw [if_neg (Nat.not_lt_zero _)]
    exact ofBits_bf16_zero
  | n + 1, hn => by
    have ih := gather_ix x r l n (by omega)
    have hl := l.isLt
    have e : gather x (n + 1) (ix2 r l)
        = Scalar.select (IntOp.cmpi .eq (BitVec.ofNat 16 l.val) (BitVec.ofNat 16 n)) (scale (View.ld x (cols n)) (ix2 r l)) (gather x n (ix2 r l)) := by
      pointwise [gather]
    refine e.trans ((select_word _ _ (by omega) (by omega) _ _).trans ?_)
    rw [ih]
    by_cases h : l.val = n
    · rw [if_pos h, if_pos (by omega), h]
    · rw [if_neg h]
      by_cases h2 : l.val < n
      · rw [if_pos h2, if_pos (by omega)]
      · rw [if_neg h2, if_neg (by omega)]

/-- Column 0 of group `g`. -/
def col0 (g : Fin 36) : Fin 4608 := ⟨128 * g.val, by omega⟩

theorem xs_ix (x : Vec Ideal S512x4608 .bf16) (r : Fin 512) (g : Fin 36) : xsOut x (ix2 r g) = scaleR (amax (rowAt x r (col0 g))) := by
  have e : xsOut x (ix2 r g) = gather x 36 (ix2 r (⟨g.val, by omega⟩ : Fin 128)) := by
    pointwise [xsOut]
  rw [e, gather_ix _ _ _ _ (le_refl _), if_pos g.isLt]
  refine (scale_ix (View.ld x (cols g.val)) r _).trans ?_
  rw [ld_row x g.val r 0]
  refine congrArg (fun k => scaleR (amax (rowAt x r k))) ?_
  apply Fin.ext
  show 128 * (g.val % 36) + 0 = 128 * g.val
  have := g.isLt
  omega

/-! ### The weight -/

theorem mem_tile128 (n : ℕ) (r : Fin 576) (k : Fin 4608) (hr : r.val / 128 = n / 36 % 4) (hk : k.val / 128 = n % 36) : ix2 r k ∈ (tile128 n).set := by
  unfold tile128
  rw [Rect.mem_set_unit]
  intro a
  match a with
  | ⟨0, _⟩ => exact ⟨by show 128 * (n / 36 % 4) ≤ r.val; omega, by show r.val < 128 * (n / 36 % 4) + 128; omega⟩
  | ⟨1, _⟩ => exact ⟨by show 128 * (n % 36) ≤ k.val; omega, by show k.val < 128 * (n % 36) + 128; omega⟩

theorem mem_tile64 (g : ℕ) (r : Fin 576) (k : Fin 4608) (hr : 512 ≤ r.val) (hk : k.val / 128 = g % 36) : ix2 r k ∈ (tile64 g).set := by
  unfold tile64
  rw [Rect.mem_set_unit]
  intro a
  match a with
  | ⟨0, _⟩ => exact ⟨hr, by show r.val < 512 + 64; omega⟩
  | ⟨1, _⟩ => exact ⟨by show 128 * (g % 36) ≤ k.val; omega, by show k.val < 128 * (g % 36) + 128; omega⟩

theorem w_canon (ws : Vec Ideal S5x36 .f32) (W : Vec Ideal S576x4608 .fp8e4m3) (r : Fin 576) (k : Fin 4608) :
    wOut ws W (ix2 r k) = W (ix2 r k) * ws (ix2 (⟨r.val / 128, by omega⟩ : Fin 5) (⟨k.val / 128, by omega⟩ : Fin 36)) := by
  have hws : ∀ b g : ℕ, wsAt ws b g = ws (ix2 (⟨b % 5, by omega⟩ : Fin 5) (⟨g % 36, by omega⟩ : Fin 36)) := fun b g => by
    refine congrArg ws ?_
    funext a; apply Fin.ext
    match a with
    | ⟨0, _⟩ => rfl
    | ⟨1, _⟩ => rfl
  refine View.canon_apply_of_pieces (fun y : S576x4608.Idx => W y * ws (ix2 (⟨(y 0).val / 128, by have : (y 0).val < 576 := (y 0).isLt; omega⟩ : Fin 5)
    (⟨(y 1).val / 128, by have : (y 1).val < 4608 := (y 1).isLt; omega⟩ : Fin 36))) (wList64 ws W ++ wList128 ws W) ?_ (ix2 r k) ?_
  · intro p hp z
    rcases List.mem_append.mp hp with hp | hp
    · obtain ⟨g, _, rfl⟩ := mem_stack.mp hp
      obtain ⟨r', l', rfl⟩ : ∃ (r' : Fin 64) (l' : Fin 128), z = ix2 r' l' := ⟨z 0, z 1, eq_ix2 z⟩
      have e : k0_pay223 (wsAt ws 4 g) (View.ld W (tile64 g)) (ix2 r' l') = View.ld W (tile64 g) (ix2 r' l') * wsAt ws 4 g := by
        pointwise [k0_pay223]
      refine e.trans ?_
      rw [hws]
      refine congrArg₂ (· * ·) rfl (congrArg ws (congrArg₂ ix2 (Fin.ext ?_) (Fin.ext ?_)))
      · show 4 % 5 = (512 + 1 * r'.val) / 128; omega
      · show g % 36 = (128 * (g % 36) + 1 * l'.val) / 128; omega
    · obtain ⟨n, hn, rfl⟩ := mem_stack.mp hp
      obtain ⟨r', l', rfl⟩ : ∃ (r' : Fin 128) (l' : Fin 128), z = ix2 r' l' := ⟨z 0, z 1, eq_ix2 z⟩
      have e : k0_pay42 (wsAt ws (n / 36 % 4) n) (View.ld W (tile128 n)) (ix2 r' l') = View.ld W (tile128 n) (ix2 r' l') * wsAt ws (n / 36 % 4) n := by
        pointwise [k0_pay42]
      refine e.trans ?_
      rw [hws]
      refine congrArg₂ (· * ·) rfl (congrArg ws (congrArg₂ ix2 (Fin.ext ?_) (Fin.ext ?_)))
      · show n / 36 % 4 % 5 = (128 * (n / 36 % 4) + 1 * r'.val) / 128; omega
      · show n % 36 = (128 * (n % 36) + 1 * l'.val) / 128; omega
  · have hk := k.isLt
    rcases Nat.lt_or_ge r.val 512 with h | h
    · exact ⟨_, List.mem_append.mpr (Or.inr (mem_stack.mpr ⟨36 * (r.val / 128) + k.val / 128, by omega, rfl⟩)),
        mem_tile128 _ r k (by omega) (by omega)⟩
    · exact ⟨_, List.mem_append.mpr (Or.inl (mem_stack.mpr ⟨k.val / 128, by omega, rfl⟩)), mem_tile64 _ r k h (by omega)⟩

end Cert.Proof.K

end
-- ==== Proof.Spec.lean ====
/-
  THE FOUR RESULTS AS PLAIN FORMULAS over the extended reals, from the arguments read as functions of their coordinates: the
  input `x` (4096 rows of 4608), the weight `w` (576 rows of codes), its tiles' scales `ws`, the norm's weights `gam` and the
  rows' positions `pos`. Both programs are proved to compute these.
-/
module

public import proofs.«01_k».proof.Proof.Scale

@[expose] public section

noncomputable section

namespace Cert.Proof.Spec

open Idealize.ShloMosaic Cert.Proof.Scale

variable (x : Fin 4096 → Fin 4608 → EReal) (w : Fin 576 → Fin 4608 → EReal) (ws : Fin 5 → Fin 36 → EReal) (gam : Fin 512 → EReal)
  (pos : Fin 4096 → EReal)

/-- The largest absolute value of group `g` of row `s`. -/
def peak (s : Fin 4096) (g : Fin 36) : EReal := amax fun j => x s ⟨128 * g.val + j.val, by omega⟩

/-- The group of a column. -/
def grp (k : Fin 4608) : Fin 36 := ⟨k.val / 128, by omega⟩

/-- The scale of a group (the fourth result), and the code of a value (the third). -/
def xs (s : Fin 4096) (g : Fin 36) : EReal := scaleR (peak x s g)
def codes (s : Fin 4096) (k : Fin 4608) : EReal := code (peak x s (grp k)) (x s k)

/-- The projection of row `s` onto weight row `r`, both scaled. -/
def proj (s : Fin 4096) (r : Fin 576) : EReal :=
  ∑ k : Fin 4608, (codes x s k * xs x s (grp k)) * (w r k * ws ⟨r.val / 128, by omega⟩ (grp k))

/-- The normalised part (the first result). -/
def normed (s : Fin 4096) (r : Fin 512) : EReal :=
  proj x w ws s ⟨r.val, by omega⟩
    * Ideal.rsqrt ((∑ q : Fin 512, proj x w ws s ⟨q.val, by omega⟩ * proj x w ws s ⟨q.val, by omega⟩) * Ideal.ofBits .f32 0x3B000000#32
        + Ideal.ofBits .f32 0x358637BD#32)
    * gam r

/-- The frequency of pair `p`. -/
def freq (p : ℕ) : EReal :=
  Ideal.pow (Ideal.ofBits .f32 1176256512#32)
    (Ideal.div (-(Ideal.ofBits .f32 1073741824#32 * FloatOps.sitofp (F := Ideal) .f32 (BitVec.ofNat 32 p))) (Ideal.ofBits .f32 1115684864#32))

/-- The rotated part (the second result): pair `p` is columns `2 p` and `2 p + 1`. -/
def even (s : Fin 4096) (p : Fin 32) : EReal := proj x w ws s ⟨512 + 2 * p.val, by omega⟩
def odd (s : Fin 4096) (p : Fin 32) : EReal := proj x w ws s ⟨512 + 2 * p.val + 1, by omega⟩
def cosA (s : Fin 4096) (p : Fin 32) : EReal := Ideal.cos (pos s * freq p.val)
def sinA (s : Fin 4096) (p : Fin 32) : EReal := Ideal.sin (pos s * freq p.val)
def rot (s : Fin 4096) (j : Fin 64) : EReal :=
  if j.val % 2 = 0 then
    even x w ws s ⟨j.val / 2, by omega⟩ * cosA pos s ⟨j.val / 2, by omega⟩ - odd x w ws s ⟨j.val / 2, by omega⟩ * sinA pos s ⟨j.val / 2, by omega⟩
  else
    even x w ws s ⟨j.val / 2, by omega⟩ * sinA pos s ⟨j.val / 2, by omega⟩ + odd x w ws s ⟨j.val / 2, by omega⟩ * cosA pos s ⟨j.val / 2, by omega⟩

end Cert.Proof.Spec

end
-- ==== Proof.KernelRun.lean ====
/-
  WHAT THE KERNEL'S RESULTS HOLD: block `t` is rows `512 t … 512 t + 511`, and every element is the formula of Spec.lean.
-/
module

public import proofs.«01_k».proof.Proof.KernelValues
public import proofs.«01_k».proof.Proof.Spec
public import Idealize.ShloMosaic.Lib.Claim

@[expose] public section

noncomputable section

namespace Cert.Proof.K

open Cert.KernelIdeal Cert.KernelIdeal.Gen Idealize.ShloMosaic Idealize.ShloMosaic.TcCoe Idealize.ShloMosaic.Tactic Idealize.SL.Sem Cert.Proof.Scale

/-! ### A block's products and rotations -/

theorem proj_ix (w : Vec Ideal S576x4608 .bf16) (d : Vec Ideal S512x4608 .bf16) (r : Fin 576) (s : Fin 512) :
    k0_pay525 w d (ix2 r s) = ∑ k : Fin 4608, d (ix2 s k) * w (ix2 r k) := by
  have e : k0_pay525 w d (ix2 r s) = ∑ k : Fin 4608, w (ix2 r k) * d (ix2 s k) := by
    pointwise [k0_pay525]
  rw [e]
  exact Finset.sum_congr rfl fun k _ => mul_comm _ _

theorem cOut_ix (w : Vec Ideal S576x4608 .bf16) (d : Vec Ideal S512x4608 .bf16) (gam : Vec Ideal S512x1 .bf16) (s : Fin 512) (r : Fin 512) :
    cOut w d gam (ix2 s r) = k0_pay525 w d (ix2 ⟨r.val, by omega⟩ s)
      * Ideal.rsqrt ((∑ q : Fin 512, k0_pay525 w d (ix2 ⟨q.val, by omega⟩ s) * k0_pay525 w d (ix2 ⟨q.val, by omega⟩ s)) * Ideal.ofBits .f32 0x3B000000#32
          + Ideal.ofBits .f32 0x358637BD#32)
      * gam (ix2 r 0) := by
  pointwise [cOut, k0_pay526]

/-- The printed test of a row's number being even. -/
def evenWord (l : BitVec 32) : BitVec 1 :=
  IntOp.cmpi .eq
    (Scalar.select
      (IntOp.andi
        (IntOp.xori
          (IntOp.cmpi .slt (IntOp.remsi .vector l (Scalar.select (Scalar.cmpi .eq 2#32 0#32) 1#32 2#32)) 0#32)
          (Scalar.cmpi .slt (Scalar.select (Scalar.cmpi .eq 2#32 0#32) 1#32 2#32) 0#32))
        (IntOp.cmpi .ne (IntOp.remsi .vector l (Scalar.select (Scalar.cmpi .eq 2#32 0#32) 1#32 2#32)) 0#32))
      (IntOp.addi (IntOp.remsi .vector l (Scalar.select (Scalar.cmpi .eq 2#32 0#32) 1#32 2#32)) (Scalar.select (Scalar.cmpi .eq 2#32 0#32) 1#32 2#32))
      (IntOp.remsi .vector l (Scalar.select (Scalar.cmpi .eq 2#32 0#32) 1#32 2#32)))
    0#32

theorem evenWord_eq : ∀ l : Fin 64, evenWord (BitVec.ofNat 32 l.val) = if l.val % 2 = 0 then 1#1 else 0#1 := by decide +kernel

theorem kOut_ix (w : Vec Ideal S576x4608 .bf16) (d : Vec Ideal S512x4608 .bf16) (p : Vec Ideal S1x512 .i32) (f : Vec Ideal S64x1 .f32) (s : Fin 512) (l : Fin 64) :
    kOut w d p f (ix2 s l)
      = k0_pay525 w d (ix2 ⟨512 + l.val, by omega⟩ s) * Ideal.cos (FloatOps.sitofp (F := Ideal) .f32 (p (ix2 0 s)) * f (ix2 l 0))
        + (if l.val % 2 = 0 then 0 - k0_pay525 w d (ix2 ⟨512 + (l.val + 64 - 63) % 64, by omega⟩ s)
            else k0_pay525 w d (ix2 ⟨512 + (l.val + 64 - 1) % 64, by omega⟩ s))
          * Ideal.sin (FloatOps.sitofp (F := Ideal) .f32 (p (ix2 0 s)) * f (ix2 l 0)) := by
  have hs : ∀ a : Fin 64, k0_pay527 w d (ix2 a s) = k0_pay525 w d (ix2 ⟨512 + a.val, by omega⟩ s) := fun a => by
    pointwise [k0_pay527]
  have hc : k0_pay531 (k0_pay528 p) (k0_pay529 f) (ix2 l s) = Ideal.cos (FloatOps.sitofp (F := Ideal) .f32 (p (ix2 0 s)) * f (ix2 l 0)) := by
    pointwise [k0_pay531, k0_pay530, k0_pay528, k0_pay529]
  have hn : k0_pay532 (k0_pay528 p) (k0_pay529 f) (ix2 l s) = Ideal.sin (FloatOps.sitofp (F := Ideal) .f32 (p (ix2 0 s)) * f (ix2 l 0)) := by
    pointwise [k0_pay532, k0_pay530, k0_pay528, k0_pay529]
  have e : kOut w d p f (ix2 s l) = k0_pay527 w d (ix2 l s) * k0_pay531 (k0_pay528 p) (k0_pay529 f) (ix2 l s)
      + Scalar.select (evenWord (BitVec.ofNat 32 l.val)) (0 - k0_pay527 w d (ix2 ⟨(l.val + 64 - 63) % 64, by omega⟩ s))
          (k0_pay527 w d (ix2 ⟨(l.val + 64 - 1) % 64, by omega⟩ s)) * k0_pay532 (k0_pay528 p) (k0_pay529 f) (ix2 l s) := by
    pointwise [kOut, k0_pay1, evenWord]
  rw [e, hs, hs, hs, hc, hn, evenWord_eq]
  by_cases h : l.val % 2 = 0
  · rw [if_pos h, if_pos h]; rfl
  · rw [if_neg h, if_neg h]; rfl

/-! ### The input blocks -/

variable (m : (ℓ : Loc nD τ sig) → Buf (Elt Ideal) ℓ) (c : Dev nD)

/-- The arguments, by their coordinates. -/
def argX (s : Fin 4096) (k : Fin 4608) : EReal := m ((c.tc : Thread nD τ).loc main_arg0) (ix3 0 s k)
def argW (r : Fin 576) (k : Fin 4608) : EReal := m ((c.tc : Thread nD τ).loc main_arg1) (ix2 r k)
def argWs (b : Fin 5) (g : Fin 36) : EReal := m ((c.tc : Thread nD τ).loc main_arg2) (ix2 b g)
def argG (r : Fin 512) : EReal := m ((c.tc : Thread nD τ).loc main_arg3) (ix1 r)
def argP (s : Fin 4096) : EReal := FloatOps.sitofp (F := Ideal) .f32 (m ((c.tc : Thread nD τ).loc main_arg4) (ix2 0 s))

/-- Row `r` of block `t`. -/
def rowN (t : Fin cfg0.N) (r : Fin 512) : Fin 4096 := ⟨512 * t.val + r.val, by have := lt_of_lt_of_eq t.isLt (show cfg0.N = 8 from N_0); omega⟩

theorem idxs : ∀ t : Fin cfg0.N, win0_0.index t = ![t.val, 0] ∧ win0_1.index t = ![0, 0] ∧ win0_2.index t = ![0, 0] ∧ win0_3.index t = ![0, 0]
    ∧ win0_4.index t = ![0, t.val] ∧ win0_5.index t = ![0, 0] ∧ win0_6.index t = ![t.val, 0] ∧ win0_7.index t = ![t.val, 0]
    ∧ win0_8.index t = ![t.val, 0] ∧ win0_9.index t = ![t.val, 0] := by decide +kernel

theorem iblk0_ix (t : Fin cfg0.N) (r : Fin 512) (k : Fin 4608) : iblk m c 0 t (ix2 r k) = argX m c (rowN t r) k := by
  obtain ⟨h0, -⟩ := idxs t
  blk_simp [iblk]
  entry_read
  pointwise
  unfold argX rowN
  blk_ext [h0]

theorem iblk1_ix (t : Fin cfg0.N) (r : Fin 576) (k : Fin 4608) : iblk m c 1 t (ix2 r k) = argW m c r k := by
  obtain ⟨-, h1, -⟩ := idxs t
  blk_simp [iblk]
  entry_read
  unfold argW
  blk_ext [h1]

theorem iblk2_ix (t : Fin cfg0.N) (b : Fin 5) (g : Fin 36) : iblk m c 2 t (ix2 b g) = argWs m c b g := by
  obtain ⟨-, -, h2, -⟩ := idxs t
  blk_simp [iblk]
  entry_read
  unfold argWs
  blk_ext [h2]

theorem iblk3_ix (t : Fin cfg0.N) (r : Fin 512) : iblk m c 3 t (ix2 r 0) = argG m c r := by
  obtain ⟨-, -, -, h3, -⟩ := idxs t
  blk_simp [iblk]
  entry_read
  pointwise
  unfold argG
  blk_ext [h3]

theorem iblk4_ix (t : Fin cfg0.N) (r : Fin 512) : FloatOps.sitofp (F := Ideal) .f32 (iblk m c 4 t (ix2 0 r)) = argP m c (rowN t r) := by
  obtain ⟨-, -, -, -, h4, -⟩ := idxs t
  unfold argP rowN
  refine congrArg (FloatOps.sitofp (F := Ideal) .f32) ?_
  blk_simp [iblk]
  entry_read
  blk_ext [h4]

theorem iblk5_ix (t : Fin cfg0.N) (j : Fin 64) : iblk m c 5 t (ix2 j 0) = Spec.freq (j.val / 2) := by
  obtain ⟨-, -, -, -, -, h5, -⟩ := idxs t
  have e : (((View.whole main_v12).slice (win0_5.rect t)).emb (ix2 j 0) 0).val = j.val := by
    blk_simp [h5]
  blk_simp [iblk]
  entry_read
  pointwise
  rw [e]
  rfl

/-! ### Every block is the formulas' block -/

theorem peak_ix (t : Fin cfg0.N) (s : Fin 512) (k : Fin 4608) :
    amax (rowAt (iblk m c 0 t) s k) = Spec.peak (argX m c) (rowN t s) (Spec.grp k) :=
  congrArg amax (funext fun j => iblk0_ix m c t s (colOf k j))

theorem codes_blk (t : Fin cfg0.N) (s : Fin 512) (k : Fin 4608) :
    (outsAt0 m c t.val t.isLt).2.2.1 (ix2 s k) = Spec.codes (argX m c) (rowN t s) k := by
  rw [codes_eq]
  refine (codes_canon (iblk m c 0 t) s k).trans ?_
  rw [peak_ix, iblk0_ix]
  rfl

theorem xs_blk (t : Fin cfg0.N) (s : Fin 512) (g : Fin 36) :
    (outsAt0 m c t.val t.isLt).2.2.2.1 (ix2 s g) = Spec.xs (argX m c) (rowN t s) g := by
  rw [xs_eq]
  refine (xs_ix (iblk m c 0 t) s g).trans ?_
  rw [peak_ix]
  refine congrArg (fun g' => scaleR (Spec.peak (argX m c) (rowN t s) g')) (Fin.ext ?_)
  show 128 * g.val / 128 = g.val
  omega

theorem proj_blk (t : Fin cfg0.N) (r : Fin 576) (s : Fin 512) :
    k0_pay525 (w0 m c) (dOut (iblk m c 0 t)) (ix2 r s) = Spec.proj (argX m c) (argW m c) (argWs m c) (rowN t s) r := by
  rw [proj_ix]
  refine Finset.sum_congr rfl fun k _ => congrArg₂ (· * ·) ?_ ?_
  · refine (deq_canon (iblk m c 0 t) s k).trans ?_
    rw [peak_ix, iblk0_ix]
    rfl
  · refine (w_canon _ _ r k).trans ?_
    rw [iblk1_ix, iblk2_ix]
    rfl

theorem c_blk (t : Fin cfg0.N) (s : Fin 512) (r : Fin 512) :
    (outsAt0 m c t.val t.isLt).1 (ix2 s r) = Spec.normed (argX m c) (argW m c) (argWs m c) (argG m c) (rowN t s) r := by
  rw [c_eq]
  refine (cOut_ix (w0 m c) (dOut (iblk m c 0 t)) (iblk m c 3 t) s r).trans ?_
  rw [iblk3_ix]
  simp only [proj_blk]
  rfl

theorem k_blk (t : Fin cfg0.N) (s : Fin 512) (l : Fin 64) :
    (outsAt0 m c t.val t.isLt).2.1 (ix2 s l) = Spec.rot (argX m c) (argW m c) (argWs m c) (argP m c) (rowN t s) l := by
  rw [k_eq]
  refine (kOut_ix (w0 m c) (dOut (iblk m c 0 t)) (iblk m c 4 t) (iblk m c 5 t) s l).trans ?_
  rw [iblk4_ix, iblk5_ix]
  simp only [proj_blk]
  have hl := l.isLt
  have q : ∀ a b : ℕ, ∀ (ha : a < 576) (hb : b < 576), a = b →
      Spec.proj (argX m c) (argW m c) (argWs m c) (rowN t s) ⟨a, ha⟩ = Spec.proj (argX m c) (argW m c) (argWs m c) (rowN t s) ⟨b, hb⟩ :=
    fun a b _ _ h => by subst h; rfl
  unfold Spec.rot Spec.even Spec.odd Spec.cosA Spec.sinA
  by_cases h : l.val % 2 = 0
  · rw [if_pos h, if_pos h, zero_sub, EReal.neg_mul, ← sub_eq_add_neg,
      q (512 + l.val) (512 + 2 * (l.val / 2)) _ (by omega) (by omega), q (512 + (l.val + 64 - 63) % 64) (512 + 2 * (l.val / 2) + 1) _ (by omega) (by omega)]
  · rw [if_neg h, if_neg h, add_comm,
      q (512 + l.val) (512 + 2 * (l.val / 2) + 1) _ (by omega) (by omega), q (512 + (l.val + 64 - 1) % 64) (512 + 2 * (l.val / 2)) _ (by omega) (by omega)]

/-! ### The arrays -/

theorem arr6 : (dats m 0 c).arrAt 6 cfg0.N = fun i : S4096x512.Idx => Spec.normed (argX m c) (argW m c) (argWs m c) (argG m c) (i 0) (i 1) := by
  refine (dats m 0 c).arrAt_eq_of_covers 6 _ (by decide +kernel) fun t hf y => ?_
  obtain ⟨-, -, -, -, -, -, h6, -⟩ := idxs t
  blk_simp
  rw [after0_6]
  obtain ⟨s, r, rfl⟩ : ∃ (s : Fin 512) (r : Fin 512), y = ix2 s r := ⟨y 0, y 1, eq_ix2 y⟩
  refine (c_blk m c t s r).trans (congrArg₂ (Spec.normed (argX m c) (argW m c) (argWs m c) (argG m c)) (Fin.ext ?_) (Fin.ext ?_))
  · blk_simp [h6, rowN]
    show 512 * t.val + s.val = t.val * 512 + s.val; omega
  · blk_simp [h6]

theorem arr7 : (dats m 0 c).arrAt 7 cfg0.N = fun i : S4096x64.Idx => Spec.rot (argX m c) (argW m c) (argWs m c) (argP m c) (i 0) (i 1) := by
  refine (dats m 0 c).arrAt_eq_of_covers 7 _ (by decide +kernel) fun t hf y => ?_
  obtain ⟨-, -, -, -, -, -, -, h7, -⟩ := idxs t
  blk_simp
  rw [after0_7]
  obtain ⟨s, r, rfl⟩ : ∃ (s : Fin 512) (r : Fin 64), y = ix2 s r := ⟨y 0, y 1, eq_ix2 y⟩
  refine (k_blk m c t s r).trans (congrArg₂ (Spec.rot (argX m c) (argW m c) (argWs m c) (argP m c)) (Fin.ext ?_) (Fin.ext ?_))
  · blk_simp [h7, rowN]
    show 512 * t.val + s.val = t.val * 512 + s.val; omega
  · blk_simp [h7]

theorem arr8 : (dats m 0 c).arrAt 8 cfg0.N = fun i : S4096x4608.Idx => Spec.codes (argX m c) (i 0) (i 1) := by
  refine (dats m 0 c).arrAt_eq_of_covers 8 _ (by decide +kernel) fun t hf y => ?_
  obtain ⟨-, -, -, -, -, -, -, -, h8, -⟩ := idxs t
  blk_simp
  rw [after0_8]
  obtain ⟨s, r, rfl⟩ : ∃ (s : Fin 512) (r : Fin 4608), y = ix2 s r := ⟨y 0, y 1, eq_ix2 y⟩
  refine (codes_blk m c t s r).trans (congrArg₂ (Spec.codes (argX m c)) (Fin.ext ?_) (Fin.ext ?_))
  · blk_simp [h8, rowN]
    show 512 * t.val + s.val = t.val * 512 + s.val; omega
  · blk_simp [h8]

theorem arr9 : (dats m 0 c).arrAt 9 cfg0.N = fun i : S4096x36.Idx => Spec.xs (argX m c) (i 0) (i 1) := by
  refine (dats m 0 c).arrAt_eq_of_covers 9 _ (by decide +kernel) fun t hf y => ?_
  obtain ⟨-, -, -, -, -, -, -, -, -, h9⟩ := idxs t
  blk_simp
  rw [after0_9]
  obtain ⟨s, r, rfl⟩ : ∃ (s : Fin 512) (r : Fin 36), y = ix2 s r := ⟨y 0, y 1, eq_ix2 y⟩
  refine (xs_blk m c t s r).trans (congrArg₂ (Spec.xs (argX m c)) (Fin.ext ?_) (Fin.ext ?_))
  · blk_simp [h9, rowN]
    show 512 * t.val + s.val = t.val * 512 + s.val; omega
  · blk_simp [h9]

/-! ### The run -/

/-- The program runs, leaves the formulas' values in its four results, and its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v15_0) = (fun i : S4096x512.Idx => Spec.normed (argX m c) (argW m c) (argWs m c) (argG m c) (i 0) (i 1))
      ∧ r.2.mem ((c.tc : Thread nD τ).loc main_v15_1) = (fun i : S4096x64.Idx => Spec.rot (argX m c) (argW m c) (argWs m c) (argP m c) (i 0) (i 1))
      ∧ r.2.mem ((c.tc : Thread nD τ).loc main_v15_2) = (fun i : S4096x4608.Idx => Spec.codes (argX m c) (i 0) (i 1))
      ∧ r.2.mem ((c.tc : Thread nD τ).loc main_v15_3) = (fun i : S4096x36.Idx => Spec.xs (argX m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 6).trans (arr6 m c), ((h.1 c).1 7).trans (arr7 m c), ((h.1 c).1 8).trans (arr8 m c),
      ((h.1 c).1 9).trans (arr9 m c), h.2 c⟩)
    (θ_run_and (run_main m ρ) (unchanged m ρ))

end Cert.Proof.K

end
-- ==== Proof.ReferenceQuantiser.lean ====
/-
  THE REFERENCE'S QUANTISER AT AN INDEX, over the extended reals: the scales, the codes and the scaled codes.
-/
module

public import proofs.«01_k».proof.Proof.Spec
public import proofs.«01_k».proof.Proof.Gen.ReferenceIdeal.Skeleton
public import Idealize.ShloMosaic.Lib.Pointwise

@[expose] public section

noncomputable section

namespace Cert.Proof.R

open Cert.ReferenceIdeal Cert.ReferenceIdeal.Gen Idealize.ShloMosaic Idealize.ShloMosaic.TcCoe Idealize.SL.Sem Cert.Proof.Scale

/-- The largest absolute value of group `g` of row `s` of the block. -/
def peakAt (x : Vec Ideal S4096x4608 .bf16) (s : Fin 4096) (g : Fin 36) : EReal := amax fun j => x (ix2 s ⟨128 * g.val + j.val, by omega⟩)

theorem x3_ix (x : Vec Ideal S4096x4608 .bf16) (s : Fin 4096) (g : Fin 36) (j : Fin 128) :
    k0_pay2 x (ix3 s g j) = x (ix2 s ⟨128 * g.val + j.val, by omega⟩) := by
  pointwise [k0_pay2]
  exact congrArg (fun k => x (ix2 s k)) (Fin.ext (show g.val * 128 + j.val = 128 * g.val + j.val by omega))

/-- The groups' largest absolute values. -/
def maxes (x : Vec Ideal S4096x4608 .bf16) : FVec Ideal S4096x36 .f32 :=
  multiReduction .maximumf [2] S4096x36 (absf (k0_pay2 x)) 0xFF800000#32 reduces_S4096x36x128_S4096x36 (.inl rfl) rfl

theorem maxes_ix (x : Vec Ideal S4096x4608 .bf16) (s : Fin 4096) (g : Fin 36) : maxes x (ix2 s g) = peakAt x s g := by
  pointwise [maxes, x3_ix]
  rw [ofBits_f32_bot]
  rfl

/-- The scale's exponent, of an array of largest absolute values. -/
def exps {S : Shape} (a : FVec Ideal S .f32) : FVec Ideal S .f32 :=
  let q := mulf a (broadcast S (Named.named κ "inv_fp8_max" 0x3B124925#32))
  select (andi (cmpf .oge q (broadcast S (Scalar.ofBits .f32 0x00800000#32))) (cmpf .ole a (broadcast S (Scalar.ofBits .f32 0x7F7F0000#32))))
    (addf (floor (divf (log q) (log (broadcast S (Scalar.ofBits .f32 0x40000000#32))))) (broadcast S (Scalar.ofBits .f32 0x3F800000#32)))
    (broadcast S (Scalar.ofBits .f32 0x00000000#32))

theorem pay3_eq (x : Vec Ideal S4096x4608 .bf16) : k0_pay3 x = exps (maxes x) := rfl

theorem named_eq : (Named.named κ "inv_fp8_max" 0x3B124925#32 : Ideal .f32) = ((1 / 448 : ℝ) : EReal) :=
  IdealRules.named_const.ideal_named_scalar _ _ _ _ rfl

theorem exps_ix {S : Shape} (a : FVec Ideal S .f32) (i : S.Idx) : exps a i = expR (a i) := by
  unfold exps expR
  rw [named_eq]
  rfl

theorem exp_ix (x : Vec Ideal S4096x4608 .bf16) (s : Fin 4096) (g : Fin 36) : k0_pay3 x (ix2 s g) = expR (peakAt x s g) := by
  rw [pay3_eq, exps_ix, maxes_ix]

theorem exp2_ix {S : Shape} (a : FVec Ideal S .f32) (i : S.Idx) : exp2 a i = Ideal.exp2 (a i) := rfl

theorem scale_ix (x : Vec Ideal S4096x4608 .bf16) (s : Fin 4096) (g : Fin 36) : k0_pay4 x (ix2 s g) = scaleR (peakAt x s g) := by
  rw [scaleR, ← exp_ix]
  exact exp2_ix _ _

/-- The codes, from the values, their groups' exponents. -/
def codesOf (x3 : FVec Ideal S4096x36x128 .f32) (e : FVec Ideal S4096x36 .f32) : FVec Ideal S4096x36x128 .fp8e4m3 :=
  truncf .fp8e4m3 (minimumf (broadcast S4096x36x128 (Scalar.ofBits .f32 0x43E00000#32)) (maximumf (broadcast S4096x36x128 (Scalar.ofBits .f32 0xC3E00000#32))
    (mulf x3 (broadcastTo S4096x36x128 (shapeCast S4096x36x1 (exp2 (subf (broadcast S4096x36 (Scalar.ofBits .f32 0x00000000#32)) e)) shapeCasts_S4096x36_S4096x36x1)
      broadcasts_S4096x36x1_S4096x36x128)))) bitsLt_fp8e4m3_f32

theorem pay5_eq (x : Vec Ideal S4096x4608 .bf16) : k0_pay5 x = codesOf (k0_pay2 x) (k0_pay3 x) := rfl

/-- The reciprocals of the scales, spread over their groups. -/
theorem spread_ix {φ : FTy} (v : FVec Ideal S4096x36 φ) (s : Fin 4096) (g : Fin 36) (j : Fin 128) :
    broadcastTo S4096x36x128 (shapeCast S4096x36x1 v shapeCasts_S4096x36_S4096x36x1) broadcasts_S4096x36x1_S4096x36x128 (ix3 s g j) = v (ix2 s g) := by
  pointwise

/-- The clipping of a product, at an index. -/
theorem clip_ix {S : Shape} (a r : FVec Ideal S .f32) (i : S.Idx) :
    truncf .fp8e4m3 (minimumf (broadcast S (Scalar.ofBits .f32 0x43E00000#32)) (maximumf (broadcast S (Scalar.ofBits .f32 0xC3E00000#32)) (mulf a r)))
      bitsLt_fp8e4m3_f32 i = min (Ideal.ofBits .f32 0x43E00000#32) (max (Ideal.ofBits .f32 0xC3E00000#32) (a i * r i)) := rfl

/-- The reciprocal of a scale, at an index. -/
theorem inv_ix {S : Shape} (e : FVec Ideal S .f32) (i : S.Idx) :
    exp2 (subf (broadcast S (Scalar.ofBits .f32 0x00000000#32)) e) i = Ideal.exp2 (Ideal.ofBits .f32 0x00000000#32 - e i) := rfl

/-- A product, at an index. -/
theorem mulf_ix {S : Shape} {φ : FTy} (a r : FVec Ideal S φ) (i : S.Idx) : mulf a r i = a i * r i := rfl

theorem codes3_ix (x : Vec Ideal S4096x4608 .bf16) (s : Fin 4096) (g : Fin 36) (j : Fin 128) :
    k0_pay5 x (ix3 s g j) = code (peakAt x s g) (x (ix2 s ⟨128 * g.val + j.val, by omega⟩)) := by
  rw [pay5_eq, code, invR, ← exp_ix x s g, ← x3_ix x s g j]
  unfold codesOf
  rw [clip_ix, spread_ix, inv_ix]

theorem codes_ix (x : Vec Ideal S4096x4608 .bf16) (s : Fin 4096) (k : Fin 4608) :
    k0_pay6 x (ix2 s k) = code (peakAt x s (Spec.grp k)) (x (ix2 s k)) := by
  have e : k0_pay6 x (ix2 s k) = k0_pay5 x (ix3 s (Spec.grp k) ⟨k.val % 128, by omega⟩) := by
    pointwise [k0_pay6]
    rfl
  rw [e, codes3_ix]
  refine congrArg (fun k' => code (peakAt x s (Spec.grp k)) (x (ix2 s k'))) (Fin.ext ?_)
  show 128 * (k.val / 128) + k.val % 128 = k.val
  omega

theorem deq_ix (x : Vec Ideal S4096x4608 .bf16) (s : Fin 4096) (k : Fin 4608) :
    k0_pay7 x (ix3 s (Spec.grp k) ⟨k.val % 128, by omega⟩) = code (peakAt x s (Spec.grp k)) (x (ix2 s k)) * scaleR (peakAt x s (Spec.grp k)) := by
  have e : k0_pay7 x (ix3 s (Spec.grp k) ⟨k.val % 128, by omega⟩) = k0_pay5 x (ix3 s (Spec.grp k) ⟨k.val % 128, by omega⟩) * k0_pay4 x (ix2 s (Spec.grp k)) := by
    unfold k0_pay7
    rw [mulf_ix, spread_ix]
    rfl
  rw [e, codes3_ix, scale_ix]
  refine congrArg (fun k' => code (peakAt x s (Spec.grp k)) (x (ix2 s k')) * scaleR (peakAt x s (Spec.grp k))) (Fin.ext ?_)
  show 128 * (k.val / 128) + k.val % 128 = k.val
  omega

end Cert.Proof.R

end
-- ==== Proof.ReferenceRun.lean ====
/-
  WHAT THE REFERENCE'S RESULTS HOLD: its one block is the whole of every array, and every element is the formula of Spec.lean.
-/
module

public import proofs.«01_k».proof.Proof.ReferenceQuantiser
public import proofs.«01_k».proof.Proof.Gen.ReferenceIdeal.Frame
public import Idealize.ShloMosaic.Lib.Pipeline.ValueKit
public import Idealize.ShloMosaic.Lib.Pipeline.ReadBack
public import Idealize.ShloMosaic.Lib.Claim

@[expose] public section

noncomputable section

namespace Cert.Proof.R

open Cert.ReferenceIdeal Cert.ReferenceIdeal.Gen Idealize.ShloMosaic Idealize.ShloMosaic.TcCoe Idealize.ShloMosaic.Tactic Idealize.SL.Sem Cert.Proof.Scale

/-! ### The products, the norm and the rotation -/

theorem proj_ix (d : FVec Ideal S4096x36x128 .bf16) (w : Vec Ideal S576x4608 .fp8e4m3) (ws : Vec Ideal S576x4608 .f32) (s : Fin 4096) (r : Fin 576) :
    k0_pay8 d w ws (ix2 s r) = ∑ k : Fin 4608, d (ix3 s (Spec.grp k) ⟨k.val % 128, by omega⟩) * (w (ix2 r k) * ws (ix2 r k)) := by
  pointwise [k0_pay8]
  rfl

theorem norm_ix (d : FVec Ideal S4096x36x128 .bf16) (w : Vec Ideal S576x4608 .fp8e4m3) (ws : Vec Ideal S576x4608 .f32) (gam : Vec Ideal S1x512 .bf16)
    (s : Fin 4096) (r : Fin 512) :
    k0_pay9 d w ws gam (ix2 s r) = k0_pay8 d w ws (ix2 s ⟨r.val, by omega⟩)
      * Ideal.rsqrt ((∑ q : Fin 512, k0_pay8 d w ws (ix2 s ⟨q.val, by omega⟩) * k0_pay8 d w ws (ix2 s ⟨q.val, by omega⟩)) * Ideal.ofBits .f32 0x3B000000#32
          + Ideal.ofBits .f32 0x358637BD#32)
      * gam (ix2 0 r) := by
  rw [← div_512]
  pointwise [k0_pay9]

theorem ang_ix (p : Vec Ideal S4096x1 .i32) (f : Vec Ideal S1x32 .f32) (s : Fin 4096) (l : Fin 32) :
    k0_pay11 p f (ix2 s l) = FloatOps.sitofp (F := Ideal) .f32 (p (ix2 s 0)) * f (ix2 0 l) := by
  pointwise [k0_pay11]

theorem even_ix (d : FVec Ideal S4096x36x128 .bf16) (w : Vec Ideal S576x4608 .fp8e4m3) (ws : Vec Ideal S576x4608 .f32) (s : Fin 4096) (l : Fin 32) :
    k0_pay14 d w ws (ix2 s l) = k0_pay8 d w ws (ix2 s ⟨512 + 2 * l.val, by omega⟩) := by
  pointwise [k0_pay14, k0_pay10]
  exact congrArg (fun r => k0_pay8 d w ws (ix2 s r)) (Fin.ext (show 512 + l.val * 2 = 512 + 2 * l.val by omega))

theorem odd_ix (d : FVec Ideal S4096x36x128 .bf16) (w : Vec Ideal S576x4608 .fp8e4m3) (ws : Vec Ideal S576x4608 .f32) (s : Fin 4096) (l : Fin 32) :
    k0_pay15 d w ws (ix2 s l) = k0_pay8 d w ws (ix2 s ⟨512 + 2 * l.val + 1, by omega⟩) := by
  pointwise [k0_pay15, k0_pay10]
  exact congrArg (fun r => k0_pay8 d w ws (ix2 s r)) (Fin.ext (show 512 + (l.val * 2 + 1) = 512 + 2 * l.val + 1 by omega))

theorem cos_ix {S : Shape} (a : FVec Ideal S .f32) (i : S.Idx) : cos a i = Ideal.cos (a i) := rfl
theorem sin_ix {S : Shape} (a : FVec Ideal S .f32) (i : S.Idx) : sin a i = Ideal.sin (a i) := rfl

theorem rot_ix (c n e o : FVec Ideal S4096x32 .f32) (s : Fin 4096) (j : Fin 64) :
    k0_pay1 c n e o (mulf e c) (ix2 s j)
      = if j.val % 2 = 0 then e (ix2 s ⟨j.val / 2, by omega⟩) * c (ix2 s ⟨j.val / 2, by omega⟩) - o (ix2 s ⟨j.val / 2, by omega⟩) * n (ix2 s ⟨j.val / 2, by omega⟩)
        else e (ix2 s ⟨j.val / 2, by omega⟩) * n (ix2 s ⟨j.val / 2, by omega⟩) + o (ix2 s ⟨j.val / 2, by omega⟩) * c (ix2 s ⟨j.val / 2, by omega⟩) := by
  pointwise [k0_pay1]
  by_cases h : j.val % 2 = 0
  · rw [dif_pos (by omega), if_pos h]
  · rw [dif_neg (by omega), if_neg h]

/-! ### The input blocks -/

variable (m : (ℓ : Loc nD τ sig) → Buf (Elt Ideal) ℓ) (c : Dev nD)

/-- The arguments, by their coordinates. -/
def argX (s : Fin 4096) (k : Fin 4608) : EReal := m ((c.tc : Thread nD τ).loc main_arg0) (ix3 0 s k)
def argW (r : Fin 576) (k : Fin 4608) : EReal := m ((c.tc : Thread nD τ).loc main_arg1) (ix2 r k)
def argWs (b : Fin 5) (g : Fin 36) : EReal := m ((c.tc : Thread nD τ).loc main_arg2) (ix2 b g)
def argG (r : Fin 512) : EReal := m ((c.tc : Thread nD τ).loc main_arg3) (ix1 r)
def argP (s : Fin 4096) : EReal := FloatOps.sitofp (F := Ideal) .f32 (m ((c.tc : Thread nD τ).loc main_arg4) (ix2 0 s))

theorem idxs : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] := by decide +kernel

theorem iblk0_ix (t : Fin cfg0.N) (r : Fin 4096) (k : Fin 4608) : iblk m c 0 t (ix2 r k) = argX m c r k := by
  obtain ⟨h0, -⟩ := idxs t
  blk_simp [iblk]
  entry_read
  pointwise
  unfold argX
  blk_ext [h0]

theorem peak_ix (t : Fin cfg0.N) (s : Fin 4096) (g : Fin 36) : peakAt (iblk m c 0 t) s g = Spec.peak (argX m c) s g :=
  congrArg amax (funext fun j => iblk0_ix m c t s ⟨128 * g.val + j.val, by omega⟩)

theorem iblk1_ix (t : Fin cfg0.N) (r : Fin 576) (k : Fin 4608) : iblk m c 1 t (ix2 r k) = argW m c r k := by
  obtain ⟨-, h1, -⟩ := idxs t
  blk_simp [iblk]
  entry_read
  unfold argW
  blk_ext [h1]

theorem iblk2_ix (t : Fin cfg0.N) (r : Fin 576) (k : Fin 4608) : iblk m c 2 t (ix2 r k) = argWs m c ⟨r.val / 128, by omega⟩ (Spec.grp k) := by
  obtain ⟨-, -, h2, -⟩ := idxs t
  blk_simp [iblk]
  entry_read
  pointwise
  unfold argWs Spec.grp
  blk_ext [h2]

theorem iblk3_ix (t : Fin cfg0.N) (r : Fin 512) : iblk m c 3 t (ix2 0 r) = argG m c r := by
  obtain ⟨-, -, -, h3, -⟩ := idxs t
  blk_simp [iblk]
  entry_read
  pointwise
  unfold argG
  blk_ext [h3]

theorem iblk4_ix (t : Fin cfg0.N) (r : Fin 4096) : FloatOps.sitofp (F := Ideal) .f32 (iblk m c 4 t (ix2 r 0)) = argP m c r := by
  obtain ⟨-, -, -, -, h4, -⟩ := idxs t
  unfold argP
  refine congrArg (FloatOps.sitofp (F := Ideal) .f32) ?_
  blk_simp [iblk]
  entry_read
  pointwise
  blk_ext [h4]

theorem iblk5_ix (t : Fin cfg0.N) (j : Fin 32) : iblk m c 5 t (ix2 0 j) = Spec.freq j.val := by
  obtain ⟨-, -, -, -, -, h5, -⟩ := idxs t
  have e : (((View.whole main_v18).slice (win0_5.rect t)).emb (ix2 0 j) 1).val = j.val := by
    blk_simp [h5]
  blk_simp [iblk]
  entry_read
  pointwise
  rw [e]
  rfl

/-! ### The arrays -/

theorem proj_blk (t : Fin cfg0.N) (s : Fin 4096) (r : Fin 576) :
    k0_pay8 (k0_pay7 (iblk m c 0 t)) (iblk m c 1 t) (iblk m c 2 t) (ix2 s r) = Spec.proj (argX m c) (argW m c) (argWs m c) s r := by
  rw [proj_ix]
  refine Finset.sum_congr rfl fun k _ => congrArg₂ (· * ·) ?_ (congrArg₂ (· * ·) (iblk1_ix m c t r k) (iblk2_ix m c t r k))
  refine (deq_ix (iblk m c 0 t) s k).trans ?_
  rw [peak_ix, iblk0_ix]
  rfl

/-- The scaled codes are those of the whole block. -/
theorem pay17_eq (x0 : Vec Ideal S4096x4608 .bf16) (x1 : Vec Ideal S576x4608 .fp8e4m3) (x2 : Vec Ideal S576x4608 .f32) (x3 : Vec Ideal S1x512 .bf16)
    (x4 : Vec Ideal S4096x1 .i32) (x5 : Vec Ideal S1x32 .f32) : k0_pay17 x0 x1 x2 x3 x4 x5 = k0_pay7 x0 :=
  congrArg k0_pay7 (View.ld_unit_lit _ x0 fun a => match a with | ⟨0, _⟩ => rfl | ⟨1, _⟩ => rfl)

theorem c_blk (t : Fin cfg0.N) (s : Fin 4096) (r : Fin 512) :
    k0_pay9 (k0_pay7 (iblk m c 0 t)) (iblk m c 1 t) (iblk m c 2 t) (iblk m c 3 t) (ix2 s r)
      = Spec.normed (argX m c) (argW m c) (argWs m c) (argG m c) s r := by
  refine (norm_ix (k0_pay7 (iblk m c 0 t)) (iblk m c 1 t) (iblk m c 2 t) (iblk m c 3 t) s r).trans ?_
  rw [iblk3_ix]
  simp only [proj_blk]
  rfl

theorem k_blk (t : Fin cfg0.N) (s : Fin 4096) (j : Fin 64) :
    k0_pay1 (k0_pay12 (iblk m c 4 t) (iblk m c 5 t)) (k0_pay13 (iblk m c 4 t) (iblk m c 5 t))
        (k0_pay14 (k0_pay7 (iblk m c 0 t)) (iblk m c 1 t) (iblk m c 2 t)) (k0_pay15 (k0_pay7 (iblk m c 0 t)) (iblk m c 1 t) (iblk m c 2 t))
        (k0_pay16 (k0_pay7 (iblk m c 0 t)) (iblk m c 1 t) (iblk m c 2 t) (iblk m c 4 t) (iblk m c 5 t)) (ix2 s j)
      = Spec.rot (argX m c) (argW m c) (argWs m c) (argP m c) s j := by
  have he : ∀ l : Fin 32, k0_pay14 (k0_pay7 (iblk m c 0 t)) (iblk m c 1 t) (iblk m c 2 t) (ix2 s l) = Spec.even (argX m c) (argW m c) (argWs m c) s l :=
    fun l => (even_ix _ _ _ s l).trans (proj_blk m c t s _)
  have ho : ∀ l : Fin 32, k0_pay15 (k0_pay7 (iblk m c 0 t)) (iblk m c 1 t) (iblk m c 2 t) (ix2 s l) = Spec.odd (argX m c) (argW m c) (argWs m c) s l :=
    fun l => (odd_ix _ _ _ s l).trans (proj_blk m c t s _)
  have ha : ∀ l : Fin 32, k0_pay11 (iblk m c 4 t) (iblk m c 5 t) (ix2 s l) = argP m c s * Spec.freq l.val := fun l =>
    (ang_ix _ _ s l).trans (congrArg₂ (· * ·) (iblk4_ix m c t s) (iblk5_ix m c t l))
  have hc : ∀ l : Fin 32, k0_pay12 (iblk m c 4 t) (iblk m c 5 t) (ix2 s l) = Spec.cosA (argP m c) s l := fun l =>
    (cos_ix _ _).trans (congrArg Ideal.cos (ha l))
  have hn : ∀ l : Fin 32, k0_pay13 (iblk m c 4 t) (iblk m c 5 t) (ix2 s l) = Spec.sinA (argP m c) s l := fun l =>
    (sin_ix _ _).trans (congrArg Ideal.sin (ha l))
  refine (rot_ix _ _ _ _ s j).trans ?_
  rw [he, ho, hc, hn]
  rfl

theorem codes_blk (t : Fin cfg0.N) (s : Fin 4096) (k : Fin 4608) : k0_pay6 (iblk m c 0 t) (ix2 s k) = Spec.codes (argX m c) s k := by
  refine (codes_ix (iblk m c 0 t) s k).trans ?_
  rw [peak_ix, iblk0_ix]
  rfl

theorem xs_blk (t : Fin cfg0.N) (s : Fin 4096) (g : Fin 36) : k0_pay4 (iblk m c 0 t) (ix2 s g) = Spec.xs (argX m c) s g := by
  refine (scale_ix (iblk m c 0 t) s g).trans ?_
  rw [peak_ix]
  rfl

theorem arr6 : (dats m 0 c).arrAt 6 cfg0.N = fun i : S4096x512.Idx => Spec.normed (argX m c) (argW m c) (argWs m c) (argG m c) (i 0) (i 1) := by
  refine (dats m 0 c).arrAt_eq_of_covers 6 _ (by decide +kernel) fun t hf y => ?_
  obtain ⟨-, -, -, -, -, -, h6, -⟩ := idxs t
  blk_simp
  rw [after0_6]
  frame_out
  rw [pay17_eq]
  obtain ⟨s, r, rfl⟩ : ∃ (s : Fin 4096) (r : Fin 512), y = ix2 s r := ⟨y 0, y 1, eq_ix2 y⟩
  refine (c_blk m c t s r).trans (congrArg₂ (Spec.normed (argX m c) (argW m c) (argWs m c) (argG m c)) (Fin.ext ?_) (Fin.ext ?_)) <;> blk_simp [h6]

theorem arr7 : (dats m 0 c).arrAt 7 cfg0.N = fun i : S4096x64.Idx => Spec.rot (argX m c) (argW m c) (argWs m c) (argP m c) (i 0) (i 1) := by
  refine (dats m 0 c).arrAt_eq_of_covers 7 _ (by decide +kernel) fun t hf y => ?_
  obtain ⟨-, -, -, -, -, -, -, h7, -⟩ := idxs t
  blk_simp
  rw [after0_7]
  frame_out
  rw [pay17_eq]
  obtain ⟨s, r, rfl⟩ : ∃ (s : Fin 4096) (r : Fin 64), y = ix2 s r := ⟨y 0, y 1, eq_ix2 y⟩
  refine (k_blk m c t s r).trans (congrArg₂ (Spec.rot (argX m c) (argW m c) (argWs m c) (argP m c)) (Fin.ext ?_) (Fin.ext ?_)) <;> blk_simp [h7]

theorem arr8 : (dats m 0 c).arrAt 8 cfg0.N = fun i : S4096x4608.Idx => Spec.codes (argX m c) (i 0) (i 1) := by
  refine (dats m 0 c).arrAt_eq_of_covers 8 _ (by decide +kernel) fun t hf y => ?_
  obtain ⟨-, -, -, -, -, -, -, -, h8, -⟩ := idxs t
  blk_simp
  rw [after0_8]
  frame_out
  obtain ⟨s, r, rfl⟩ : ∃ (s : Fin 4096) (r : Fin 4608), y = ix2 s r := ⟨y 0, y 1, eq_ix2 y⟩
  refine (codes_blk m c t s r).trans (congrArg₂ (Spec.codes (argX m c)) (Fin.ext ?_) (Fin.ext ?_)) <;> blk_simp [h8]

theorem arr9 : (dats m 0 c).arrAt 9 cfg0.N = fun i : S4096x36.Idx => Spec.xs (argX m c) (i 0) (i 1) := by
  refine (dats m 0 c).arrAt_eq_of_covers 9 _ (by decide +kernel) fun t hf y => ?_
  obtain ⟨-, -, -, -, -, -, -, -, -, h9⟩ := idxs t
  blk_simp
  rw [after0_9]
  frame_out
  obtain ⟨s, r, rfl⟩ : ∃ (s : Fin 4096) (r : Fin 36), y = ix2 s r := ⟨y 0, y 1, eq_ix2 y⟩
  refine (xs_blk m c t s r).trans (congrArg₂ (Spec.xs (argX m c)) (Fin.ext ?_) (Fin.ext ?_)) <;> blk_simp [h9]

/-! ### The run -/

/-- The program runs, leaves the formulas' values in its four results, and its arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v19_0) = (fun i : S4096x512.Idx => Spec.normed (argX m c) (argW m c) (argWs m c) (argG m c) (i 0) (i 1))
      ∧ r.2.mem ((c.tc : Thread nD τ).loc main_v19_1) = (fun i : S4096x64.Idx => Spec.rot (argX m c) (argW m c) (argWs m c) (argP m c) (i 0) (i 1))
      ∧ r.2.mem ((c.tc : Thread nD τ).loc main_v19_2) = (fun i : S4096x4608.Idx => Spec.codes (argX m c) (i 0) (i 1))
      ∧ r.2.mem ((c.tc : Thread nD τ).loc main_v19_3) = (fun i : S4096x36.Idx => Spec.xs (argX m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 6).trans (arr6 m c), ((h.1 c).1 7).trans (arr7 m c), ((h.1 c).1 8).trans (arr8 m c),
      ((h.1 c).1 9).trans (arr9 m c), h.2 c⟩)
    (θ_run_and (run_main m ρ) (unchanged m ρ))

end Cert.Proof.R

end
-- ==== Proof.lean ====
/-
  THE PROOF OF `Cert.Claim`. The three frames are the generated ones and `preserves` rewrites nothing. The value claim: KernelRun.lean
  and ReferenceRun.lean give every result of either program as the same formula of Spec.lean, of that program's own arguments; the
  arguments agree, so the results do.
-/
module

public import proofs.«01_k».proof.Defs
public import proofs.«01_k».proof.Proof.KernelRun
public import proofs.«01_k».proof.Proof.ReferenceRun
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.ShloMosaic.Tactic Idealize.SL.Sem Cert.Kernel

/-- Kernel and reference compute the same four arrays. -/
theorem value : algebraic_KernelIdeal_ReferenceIdeal := by
  intro m g m' g' _ hagree
  have h0 : ∀ c, R.argX m' c = K.argX m c := fun c => funext fun s => funext fun k => congrFun (hagree c).1 (ix3 0 s k)
  have h1 : ∀ c, R.argW m' c = K.argW m c := fun c => funext fun r => funext fun k => congrFun (hagree c).2.1 (ix2 r k)
  have h2 : ∀ c, R.argWs m' c = K.argWs m c := fun c => funext fun b => funext fun g => congrFun (hagree c).2.2.1 (ix2 b g)
  have h3 : ∀ c, R.argG m' c = K.argG m c := fun c => funext fun r => congrFun (hagree c).2.2.2.1 (ix1 r)
  have h4 : ∀ c, R.argP m' c = K.argP m c := fun c => funext fun s =>
    congrArg (FloatOps.sitofp (F := Ideal) .f32) (congrFun (hagree c).2.2.2.2 (ix2 0 s))
  refine ⟨_, _, _, _, K.run m g, ?_⟩
  have h := R.run m' g'
  simp only [h0, h1, h2, h3, h4] at h
  exact h

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, value⟩

end Cert.Proof

end
